-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 1536]⟩ ⟨2, ![768, 49152]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 1536]⟩ ⟨2, ![768, 49152]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1536, 768]⟩ ⟨2, ![49152, 768]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x768 : Shape := ⟨2, ![768, 768]⟩
abbrev S768x1536 : Shape := ⟨2, ![768, 1536]⟩
abbrev S1536x768 : Shape := ⟨2, ![1536, 768]⟩
abbrev S32x24x768 : Shape := ⟨3, ![32, 24, 768]⟩
abbrev S32 : Shape := ⟨1, ![32]⟩
abbrev S_ : Shape := ⟨0, ![]⟩
abbrev S24x768 : Shape := ⟨2, ![24, 768]⟩
abbrev S1x24x768 : Shape := ⟨3, ![1, 24, 768]⟩
abbrev S1 : Shape := ⟨1, ![1]⟩

abbrev nBuf : Space → Nat
  | .hbm => 5
  | .vmem => 8
  | .smem => 0
  | _ => 0

abbrev bufTy : (tb : Table) → Fin (tcTables nBuf tb) → BufTy
  | .hbm, ⟨0, _⟩ => ⟨S768x768, .bf16⟩
  | .hbm, ⟨1, _⟩ => ⟨S768x1536, .bf16⟩
  | .hbm, ⟨2, _⟩ => ⟨S768x1536, .bf16⟩
  | .hbm, ⟨3, _⟩ => ⟨S1536x768, .bf16⟩
  | .hbm, ⟨4, _⟩ => ⟨S768x768, .f32⟩
  | .local _ .vmem, ⟨0, _⟩ => ⟨S768x768, .bf16⟩
  | .local _ .vmem, ⟨1, _⟩ => ⟨S768x1536, .bf16⟩
  | .local _ .vmem, ⟨2, _⟩ => ⟨S768x1536, .bf16⟩
  | .local _ .vmem, ⟨3, _⟩ => ⟨S1536x768, .bf16⟩
  | .local _ .vmem, ⟨4, _⟩ => ⟨S768x768, .f32⟩
  | .local _ .vmem, ⟨5, _⟩ => ⟨S32x24x768, .bf16⟩
  | .local _ .vmem, ⟨6, _⟩ => ⟨S32x24x768, .bf16⟩
  | .local _ .vmem, ⟨7, _⟩ => ⟨S32x24x768, .bf16⟩
  | _, _ => ⟨S768x768, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_199 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v272 : BitVec 32 := Scalar.addi v2 c1_i32_199
  let c32_i32_200 : BitVec 32 := 32#32
  let v273 : BitVec 32 := Scalar.remsi v272 c32_i32_200
  ![v273.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_203 : BitVec 32 := 0#32
  let c0_i32_204 : BitVec 32 := 0#32
  ![v2.toNat, 0, 0]
def k0_off4 (d0 : Dev nD) (c1_i32_199 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v272 : BitVec 32 := Scalar.addi v2 c1_i32_199
  let c32_i32_200 : BitVec 32 := 32#32
  let v273 : BitVec 32 := Scalar.remsi v272 c32_i32_200
  let c0_i32_205 : BitVec 32 := 0#32
  let c0_i32_206 : BitVec 32 := 0#32
  ![v273.toNat, 0, 0]
def k0_dev32 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_199 : BitVec 32 := 1#32
  let v272 : BitVec 32 := Scalar.addi v2 c1_i32_199
  let c32_i32_200 : BitVec 32 := 32#32
  let v273 : BitVec 32 := Scalar.remsi v272 c32_i32_200
  let c1_i32_201 : BitVec 32 := 1#32
  let v274 : BitVec 32 := Scalar.muli v273 c1_i32_201
  let v275 : BitVec 32 := Scalar.addi c0_i32_202 v274
  v275.toNat
def k0_dev33 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_207 : BitVec 32 := 2#32
  let v284 : BitVec 32 := Scalar.addi v2 c2_i32_207
  let c32_i32_208 : BitVec 32 := 32#32
  let v285 : BitVec 32 := Scalar.remsi v284 c32_i32_208
  let c1_i32_209 : BitVec 32 := 1#32
  let v286 : BitVec 32 := Scalar.muli v285 c1_i32_209
  let v287 : BitVec 32 := Scalar.addi c0_i32_210 v286
  v287.toNat
def k0_dev34 (d0 : Dev nD) : Nat :=
  let c0_i32_218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_215 : BitVec 32 := 3#32
  let v296 : BitVec 32 := Scalar.addi v2 c3_i32_215
  let c32_i32_216 : BitVec 32 := 32#32
  let v297 : BitVec 32 := Scalar.remsi v296 c32_i32_216
  let c1_i32_217 : BitVec 32 := 1#32
  let v298 : BitVec 32 := Scalar.muli v297 c1_i32_217
  let v299 : BitVec 32 := Scalar.addi c0_i32_218 v298
  v299.toNat
def k0_dev35 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_223 : BitVec 32 := 4#32
  let v308 : BitVec 32 := Scalar.addi v2 c4_i32_223
  let c32_i32_224 : BitVec 32 := 32#32
  let v309 : BitVec 32 := Scalar.remsi v308 c32_i32_224
  let c1_i32_225 : BitVec 32 := 1#32
  let v310 : BitVec 32 := Scalar.muli v309 c1_i32_225
  let v311 : BitVec 32 := Scalar.addi c0_i32_226 v310
  v311.toNat
def k0_dev36 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_231 : BitVec 32 := 5#32
  let v320 : BitVec 32 := Scalar.addi v2 c5_i32_231
  let c32_i32_232 : BitVec 32 := 32#32
  let v321 : BitVec 32 := Scalar.remsi v320 c32_i32_232
  let c1_i32_233 : BitVec 32 := 1#32
  let v322 : BitVec 32 := Scalar.muli v321 c1_i32_233
  let v323 : BitVec 32 := Scalar.addi c0_i32_234 v322
  v323.toNat
def k0_dev37 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_239 : BitVec 32 := 6#32
  let v332 : BitVec 32 := Scalar.addi v2 c6_i32_239
  let c32_i32_240 : BitVec 32 := 32#32
  let v333 : BitVec 32 := Scalar.remsi v332 c32_i32_240
  let c1_i32_241 : BitVec 32 := 1#32
  let v334 : BitVec 32 := Scalar.muli v333 c1_i32_241
  let v335 : BitVec 32 := Scalar.addi c0_i32_242 v334
  v335.toNat
def k0_dev38 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_247 : BitVec 32 := 7#32
  let v344 : BitVec 32 := Scalar.addi v2 c7_i32_247
  let c32_i32_248 : BitVec 32 := 32#32
  let v345 : BitVec 32 := Scalar.remsi v344 c32_i32_248
  let c1_i32_249 : BitVec 32 := 1#32
  let v346 : BitVec 32 := Scalar.muli v345 c1_i32_249
  let v347 : BitVec 32 := Scalar.addi c0_i32_250 v346
  v347.toNat
def k0_dev39 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_255 : BitVec 32 := 8#32
  let v356 : BitVec 32 := Scalar.addi v2 c8_i32_255
  let c32_i32_256 : BitVec 32 := 32#32
  let v357 : BitVec 32 := Scalar.remsi v356 c32_i32_256
  let c1_i32_257 : BitVec 32 := 1#32
  let v358 : BitVec 32 := Scalar.muli v357 c1_i32_257
  let v359 : BitVec 32 := Scalar.addi c0_i32_258 v358
  v359.toNat
def k0_dev40 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_263 : BitVec 32 := 9#32
  let v368 : BitVec 32 := Scalar.addi v2 c9_i32_263
  let c32_i32_264 : BitVec 32 := 32#32
  let v369 : BitVec 32 := Scalar.remsi v368 c32_i32_264
  let c1_i32_265 : BitVec 32 := 1#32
  let v370 : BitVec 32 := Scalar.muli v369 c1_i32_265
  let v371 : BitVec 32 := Scalar.addi c0_i32_266 v370
  v371.toNat
def k0_dev41 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_271 : BitVec 32 := 10#32
  let v380 : BitVec 32 := Scalar.addi v2 c10_i32_271
  let c32_i32_272 : BitVec 32 := 32#32
  let v381 : BitVec 32 := Scalar.remsi v380 c32_i32_272
  let c1_i32_273 : BitVec 32 := 1#32
  let v382 : BitVec 32 := Scalar.muli v381 c1_i32_273
  let v383 : BitVec 32 := Scalar.addi c0_i32_274 v382
  v383.toNat
def k0_dev42 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_279 : BitVec 32 := 11#32
  let v392 : BitVec 32 := Scalar.addi v2 c11_i32_279
  let c32_i32_280 : BitVec 32 := 32#32
  let v393 : BitVec 32 := Scalar.remsi v392 c32_i32_280
  let c1_i32_281 : BitVec 32 := 1#32
  let v394 : BitVec 32 := Scalar.muli v393 c1_i32_281
  let v395 : BitVec 32 := Scalar.addi c0_i32_282 v394
  v395.toNat
def k0_dev43 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_287 : BitVec 32 := 12#32
  let v404 : BitVec 32 := Scalar.addi v2 c12_i32_287
  let c32_i32_288 : BitVec 32 := 32#32
  let v405 : BitVec 32 := Scalar.remsi v404 c32_i32_288
  let c1_i32_289 : BitVec 32 := 1#32
  let v406 : BitVec 32 := Scalar.muli v405 c1_i32_289
  let v407 : BitVec 32 := Scalar.addi c0_i32_290 v406
  v407.toNat
def k0_dev44 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_295 : BitVec 32 := 13#32
  let v416 : BitVec 32 := Scalar.addi v2 c13_i32_295
  let c32_i32_296 : BitVec 32 := 32#32
  let v417 : BitVec 32 := Scalar.remsi v416 c32_i32_296
  let c1_i32_297 : BitVec 32 := 1#32
  let v418 : BitVec 32 := Scalar.muli v417 c1_i32_297
  let v419 : BitVec 32 := Scalar.addi c0_i32_298 v418
  v419.toNat
def k0_dev45 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_303 : BitVec 32 := 14#32
  let v428 : BitVec 32 := Scalar.addi v2 c14_i32_303
  let c32_i32_304 : BitVec 32 := 32#32
  let v429 : BitVec 32 := Scalar.remsi v428 c32_i32_304
  let c1_i32_305 : BitVec 32 := 1#32
  let v430 : BitVec 32 := Scalar.muli v429 c1_i32_305
  let v431 : BitVec 32 := Scalar.addi c0_i32_306 v430
  v431.toNat
def k0_dev46 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_311 : BitVec 32 := 15#32
  let v440 : BitVec 32 := Scalar.addi v2 c15_i32_311
  let c32_i32_312 : BitVec 32 := 32#32
  let v441 : BitVec 32 := Scalar.remsi v440 c32_i32_312
  let c1_i32_313 : BitVec 32 := 1#32
  let v442 : BitVec 32 := Scalar.muli v441 c1_i32_313
  let v443 : BitVec 32 := Scalar.addi c0_i32_314 v442
  v443.toNat
def k0_dev47 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_319 : BitVec 32 := 16#32
  let v452 : BitVec 32 := Scalar.addi v2 c16_i32_319
  let c32_i32_320 : BitVec 32 := 32#32
  let v453 : BitVec 32 := Scalar.remsi v452 c32_i32_320
  let c1_i32_321 : BitVec 32 := 1#32
  let v454 : BitVec 32 := Scalar.muli v453 c1_i32_321
  let v455 : BitVec 32 := Scalar.addi c0_i32_322 v454
  v455.toNat
def k0_dev48 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_327 : BitVec 32 := 17#32
  let v464 : BitVec 32 := Scalar.addi v2 c17_i32_327
  let c32_i32_328 : BitVec 32 := 32#32
  let v465 : BitVec 32 := Scalar.remsi v464 c32_i32_328
  let c1_i32_329 : BitVec 32 := 1#32
  let v466 : BitVec 32 := Scalar.muli v465 c1_i32_329
  let v467 : BitVec 32 := Scalar.addi c0_i32_330 v466
  v467.toNat
def k0_dev49 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_335 : BitVec 32 := 18#32
  let v476 : BitVec 32 := Scalar.addi v2 c18_i32_335
  let c32_i32_336 : BitVec 32 := 32#32
  let v477 : BitVec 32 := Scalar.remsi v476 c32_i32_336
  let c1_i32_337 : BitVec 32 := 1#32
  let v478 : BitVec 32 := Scalar.muli v477 c1_i32_337
  let v479 : BitVec 32 := Scalar.addi c0_i32_338 v478
  v479.toNat
def k0_dev50 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_343 : BitVec 32 := 19#32
  let v488 : BitVec 32 := Scalar.addi v2 c19_i32_343
  let c32_i32_344 : BitVec 32 := 32#32
  let v489 : BitVec 32 := Scalar.remsi v488 c32_i32_344
  let c1_i32_345 : BitVec 32 := 1#32
  let v490 : BitVec 32 := Scalar.muli v489 c1_i32_345
  let v491 : BitVec 32 := Scalar.addi c0_i32_346 v490
  v491.toNat
def k0_dev51 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_351 : BitVec 32 := 20#32
  let v500 : BitVec 32 := Scalar.addi v2 c20_i32_351
  let c32_i32_352 : BitVec 32 := 32#32
  let v501 : BitVec 32 := Scalar.remsi v500 c32_i32_352
  let c1_i32_353 : BitVec 32 := 1#32
  let v502 : BitVec 32 := Scalar.muli v501 c1_i32_353
  let v503 : BitVec 32 := Scalar.addi c0_i32_354 v502
  v503.toNat
def k0_dev52 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_359 : BitVec 32 := 21#32
  let v512 : BitVec 32 := Scalar.addi v2 c21_i32_359
  let c32_i32_360 : BitVec 32 := 32#32
  let v513 : BitVec 32 := Scalar.remsi v512 c32_i32_360
  let c1_i32_361 : BitVec 32 := 1#32
  let v514 : BitVec 32 := Scalar.muli v513 c1_i32_361
  let v515 : BitVec 32 := Scalar.addi c0_i32_362 v514
  v515.toNat
def k0_dev53 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_367 : BitVec 32 := 22#32
  let v524 : BitVec 32 := Scalar.addi v2 c22_i32_367
  let c32_i32_368 : BitVec 32 := 32#32
  let v525 : BitVec 32 := Scalar.remsi v524 c32_i32_368
  let c1_i32_369 : BitVec 32 := 1#32
  let v526 : BitVec 32 := Scalar.muli v525 c1_i32_369
  let v527 : BitVec 32 := Scalar.addi c0_i32_370 v526
  v527.toNat
def k0_dev54 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_375 : BitVec 32 := 23#32
  let v536 : BitVec 32 := Scalar.addi v2 c23_i32_375
  let c32_i32_376 : BitVec 32 := 32#32
  let v537 : BitVec 32 := Scalar.remsi v536 c32_i32_376
  let c1_i32_377 : BitVec 32 := 1#32
  let v538 : BitVec 32 := Scalar.muli v537 c1_i32_377
  let v539 : BitVec 32 := Scalar.addi c0_i32_378 v538
  v539.toNat
def k0_dev55 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_383 : BitVec 32 := 24#32
  let v548 : BitVec 32 := Scalar.addi v2 c24_i32_383
  let c32_i32_384 : BitVec 32 := 32#32
  let v549 : BitVec 32 := Scalar.remsi v548 c32_i32_384
  let c1_i32_385 : BitVec 32 := 1#32
  let v550 : BitVec 32 := Scalar.muli v549 c1_i32_385
  let v551 : BitVec 32 := Scalar.addi c0_i32_386 v550
  v551.toNat
def k0_dev56 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_391 : BitVec 32 := 25#32
  let v560 : BitVec 32 := Scalar.addi v2 c25_i32_391
  let c32_i32_392 : BitVec 32 := 32#32
  let v561 : BitVec 32 := Scalar.remsi v560 c32_i32_392
  let c1_i32_393 : BitVec 32 := 1#32
  let v562 : BitVec 32 := Scalar.muli v561 c1_i32_393
  let v563 : BitVec 32 := Scalar.addi c0_i32_394 v562
  v563.toNat
def k0_dev57 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_399 : BitVec 32 := 26#32
  let v572 : BitVec 32 := Scalar.addi v2 c26_i32_399
  let c32_i32_400 : BitVec 32 := 32#32
  let v573 : BitVec 32 := Scalar.remsi v572 c32_i32_400
  let c1_i32_401 : BitVec 32 := 1#32
  let v574 : BitVec 32 := Scalar.muli v573 c1_i32_401
  let v575 : BitVec 32 := Scalar.addi c0_i32_402 v574
  v575.toNat
def k0_dev58 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_407 : BitVec 32 := 27#32
  let v584 : BitVec 32 := Scalar.addi v2 c27_i32_407
  let c32_i32_408 : BitVec 32 := 32#32
  let v585 : BitVec 32 := Scalar.remsi v584 c32_i32_408
  let c1_i32_409 : BitVec 32 := 1#32
  let v586 : BitVec 32 := Scalar.muli v585 c1_i32_409
  let v587 : BitVec 32 := Scalar.addi c0_i32_410 v586
  v587.toNat
def k0_dev59 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_415 : BitVec 32 := 28#32
  let v596 : BitVec 32 := Scalar.addi v2 c28_i32_415
  let c32_i32_416 : BitVec 32 := 32#32
  let v597 : BitVec 32 := Scalar.remsi v596 c32_i32_416
  let c1_i32_417 : BitVec 32 := 1#32
  let v598 : BitVec 32 := Scalar.muli v597 c1_i32_417
  let v599 : BitVec 32 := Scalar.addi c0_i32_418 v598
  v599.toNat
def k0_dev60 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_423 : BitVec 32 := 29#32
  let v608 : BitVec 32 := Scalar.addi v2 c29_i32_423
  let c32_i32_424 : BitVec 32 := 32#32
  let v609 : BitVec 32 := Scalar.remsi v608 c32_i32_424
  let c1_i32_425 : BitVec 32 := 1#32
  let v610 : BitVec 32 := Scalar.muli v609 c1_i32_425
  let v611 : BitVec 32 := Scalar.addi c0_i32_426 v610
  v611.toNat
def k0_dev61 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_431 : BitVec 32 := 30#32
  let v620 : BitVec 32 := Scalar.addi v2 c30_i32_431
  let c32_i32_432 : BitVec 32 := 32#32
  let v621 : BitVec 32 := Scalar.remsi v620 c32_i32_432
  let c1_i32_433 : BitVec 32 := 1#32
  let v622 : BitVec 32 := Scalar.muli v621 c1_i32_433
  let v623 : BitVec 32 := Scalar.addi c0_i32_434 v622
  v623.toNat
def k0_dev62 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_439 : BitVec 32 := 31#32
  let v632 : BitVec 32 := Scalar.addi v2 c31_i32_439
  let c32_i32_440 : BitVec 32 := 32#32
  let v633 : BitVec 32 := Scalar.remsi v632 c32_i32_440
  let c1_i32_441 : BitVec 32 := 1#32
  let v634 : BitVec 32 := Scalar.muli v633 c1_i32_441
  let v635 : BitVec 32 := Scalar.addi c0_i32_442 v634
  v635.toNat
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v644 : Index := Scalar.indexCast v2
  let c0_447 : Index := 0#32
  let c0_448 : Index := 0#32
  ![v644.toNat, 0, 0]
def k0_dev63 (d0 : Dev nD) : Nat :=
  let c0_i32_863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_860 : BitVec 32 := 1#32
  let v1155 : BitVec 32 := Scalar.addi v2 c1_i32_860
  let c32_i32_861 : BitVec 32 := 32#32
  let v1156 : BitVec 32 := Scalar.remsi v1155 c32_i32_861
  let c1_i32_862 : BitVec 32 := 1#32
  let v1157 : BitVec 32 := Scalar.muli v1156 c1_i32_862
  let v1158 : BitVec 32 := Scalar.addi c0_i32_863 v1157
  v1158.toNat
def k0_dev64 (d0 : Dev nD) : Nat :=
  let c0_i32_871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_868 : BitVec 32 := 2#32
  let v1167 : BitVec 32 := Scalar.addi v2 c2_i32_868
  let c32_i32_869 : BitVec 32 := 32#32
  let v1168 : BitVec 32 := Scalar.remsi v1167 c32_i32_869
  let c1_i32_870 : BitVec 32 := 1#32
  let v1169 : BitVec 32 := Scalar.muli v1168 c1_i32_870
  let v1170 : BitVec 32 := Scalar.addi c0_i32_871 v1169
  v1170.toNat
def k0_dev65 (d0 : Dev nD) : Nat :=
  let c0_i32_879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_876 : BitVec 32 := 3#32
  let v1179 : BitVec 32 := Scalar.addi v2 c3_i32_876
  let c32_i32_877 : BitVec 32 := 32#32
  let v1180 : BitVec 32 := Scalar.remsi v1179 c32_i32_877
  let c1_i32_878 : BitVec 32 := 1#32
  let v1181 : BitVec 32 := Scalar.muli v1180 c1_i32_878
  let v1182 : BitVec 32 := Scalar.addi c0_i32_879 v1181
  v1182.toNat
def k0_dev66 (d0 : Dev nD) : Nat :=
  let c0_i32_887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_884 : BitVec 32 := 4#32
  let v1191 : BitVec 32 := Scalar.addi v2 c4_i32_884
  let c32_i32_885 : BitVec 32 := 32#32
  let v1192 : BitVec 32 := Scalar.remsi v1191 c32_i32_885
  let c1_i32_886 : BitVec 32 := 1#32
  let v1193 : BitVec 32 := Scalar.muli v1192 c1_i32_886
  let v1194 : BitVec 32 := Scalar.addi c0_i32_887 v1193
  v1194.toNat
def k0_dev67 (d0 : Dev nD) : Nat :=
  let c0_i32_895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_892 : BitVec 32 := 5#32
  let v1203 : BitVec 32 := Scalar.addi v2 c5_i32_892
  let c32_i32_893 : BitVec 32 := 32#32
  let v1204 : BitVec 32 := Scalar.remsi v1203 c32_i32_893
  let c1_i32_894 : BitVec 32 := 1#32
  let v1205 : BitVec 32 := Scalar.muli v1204 c1_i32_894
  let v1206 : BitVec 32 := Scalar.addi c0_i32_895 v1205
  v1206.toNat
def k0_dev68 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_900 : BitVec 32 := 6#32
  let v1215 : BitVec 32 := Scalar.addi v2 c6_i32_900
  let c32_i32_901 : BitVec 32 := 32#32
  let v1216 : BitVec 32 := Scalar.remsi v1215 c32_i32_901
  let c1_i32_902 : BitVec 32 := 1#32
  let v1217 : BitVec 32 := Scalar.muli v1216 c1_i32_902
  let v1218 : BitVec 32 := Scalar.addi c0_i32_903 v1217
  v1218.toNat
def k0_dev69 (d0 : Dev nD) : Nat :=
  let c0_i32_911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_908 : BitVec 32 := 7#32
  let v1227 : BitVec 32 := Scalar.addi v2 c7_i32_908
  let c32_i32_909 : BitVec 32 := 32#32
  let v1228 : BitVec 32 := Scalar.remsi v1227 c32_i32_909
  let c1_i32_910 : BitVec 32 := 1#32
  let v1229 : BitVec 32 := Scalar.muli v1228 c1_i32_910
  let v1230 : BitVec 32 := Scalar.addi c0_i32_911 v1229
  v1230.toNat
def k0_dev70 (d0 : Dev nD) : Nat :=
  let c0_i32_919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_916 : BitVec 32 := 8#32
  let v1239 : BitVec 32 := Scalar.addi v2 c8_i32_916
  let c32_i32_917 : BitVec 32 := 32#32
  let v1240 : BitVec 32 := Scalar.remsi v1239 c32_i32_917
  let c1_i32_918 : BitVec 32 := 1#32
  let v1241 : BitVec 32 := Scalar.muli v1240 c1_i32_918
  let v1242 : BitVec 32 := Scalar.addi c0_i32_919 v1241
  v1242.toNat
def k0_dev71 (d0 : Dev nD) : Nat :=
  let c0_i32_927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_924 : BitVec 32 := 9#32
  let v1251 : BitVec 32 := Scalar.addi v2 c9_i32_924
  let c32_i32_925 : BitVec 32 := 32#32
  let v1252 : BitVec 32 := Scalar.remsi v1251 c32_i32_925
  let c1_i32_926 : BitVec 32 := 1#32
  let v1253 : BitVec 32 := Scalar.muli v1252 c1_i32_926
  let v1254 : BitVec 32 := Scalar.addi c0_i32_927 v1253
  v1254.toNat
def k0_dev72 (d0 : Dev nD) : Nat :=
  let c0_i32_935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_932 : BitVec 32 := 10#32
  let v1263 : BitVec 32 := Scalar.addi v2 c10_i32_932
  let c32_i32_933 : BitVec 32 := 32#32
  let v1264 : BitVec 32 := Scalar.remsi v1263 c32_i32_933
  let c1_i32_934 : BitVec 32 := 1#32
  let v1265 : BitVec 32 := Scalar.muli v1264 c1_i32_934
  let v1266 : BitVec 32 := Scalar.addi c0_i32_935 v1265
  v1266.toNat
def k0_dev73 (d0 : Dev nD) : Nat :=
  let c0_i32_943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_940 : BitVec 32 := 11#32
  let v1275 : BitVec 32 := Scalar.addi v2 c11_i32_940
  let c32_i32_941 : BitVec 32 := 32#32
  let v1276 : BitVec 32 := Scalar.remsi v1275 c32_i32_941
  let c1_i32_942 : BitVec 32 := 1#32
  let v1277 : BitVec 32 := Scalar.muli v1276 c1_i32_942
  let v1278 : BitVec 32 := Scalar.addi c0_i32_943 v1277
  v1278.toNat
def k0_dev74 (d0 : Dev nD) : Nat :=
  let c0_i32_951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_948 : BitVec 32 := 12#32
  let v1287 : BitVec 32 := Scalar.addi v2 c12_i32_948
  let c32_i32_949 : BitVec 32 := 32#32
  let v1288 : BitVec 32 := Scalar.remsi v1287 c32_i32_949
  let c1_i32_950 : BitVec 32 := 1#32
  let v1289 : BitVec 32 := Scalar.muli v1288 c1_i32_950
  let v1290 : BitVec 32 := Scalar.addi c0_i32_951 v1289
  v1290.toNat
def k0_dev75 (d0 : Dev nD) : Nat :=
  let c0_i32_959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_956 : BitVec 32 := 13#32
  let v1299 : BitVec 32 := Scalar.addi v2 c13_i32_956
  let c32_i32_957 : BitVec 32 := 32#32
  let v1300 : BitVec 32 := Scalar.remsi v1299 c32_i32_957
  let c1_i32_958 : BitVec 32 := 1#32
  let v1301 : BitVec 32 := Scalar.muli v1300 c1_i32_958
  let v1302 : BitVec 32 := Scalar.addi c0_i32_959 v1301
  v1302.toNat
def k0_dev76 (d0 : Dev nD) : Nat :=
  let c0_i32_967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_964 : BitVec 32 := 14#32
  let v1311 : BitVec 32 := Scalar.addi v2 c14_i32_964
  let c32_i32_965 : BitVec 32 := 32#32
  let v1312 : BitVec 32 := Scalar.remsi v1311 c32_i32_965
  let c1_i32_966 : BitVec 32 := 1#32
  let v1313 : BitVec 32 := Scalar.muli v1312 c1_i32_966
  let v1314 : BitVec 32 := Scalar.addi c0_i32_967 v1313
  v1314.toNat
def k0_dev77 (d0 : Dev nD) : Nat :=
  let c0_i32_975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_972 : BitVec 32 := 15#32
  let v1323 : BitVec 32 := Scalar.addi v2 c15_i32_972
  let c32_i32_973 : BitVec 32 := 32#32
  let v1324 : BitVec 32 := Scalar.remsi v1323 c32_i32_973
  let c1_i32_974 : BitVec 32 := 1#32
  let v1325 : BitVec 32 := Scalar.muli v1324 c1_i32_974
  let v1326 : BitVec 32 := Scalar.addi c0_i32_975 v1325
  v1326.toNat
def k0_dev78 (d0 : Dev nD) : Nat :=
  let c0_i32_983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_980 : BitVec 32 := 16#32
  let v1335 : BitVec 32 := Scalar.addi v2 c16_i32_980
  let c32_i32_981 : BitVec 32 := 32#32
  let v1336 : BitVec 32 := Scalar.remsi v1335 c32_i32_981
  let c1_i32_982 : BitVec 32 := 1#32
  let v1337 : BitVec 32 := Scalar.muli v1336 c1_i32_982
  let v1338 : BitVec 32 := Scalar.addi c0_i32_983 v1337
  v1338.toNat
def k0_dev79 (d0 : Dev nD) : Nat :=
  let c0_i32_991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_988 : BitVec 32 := 17#32
  let v1347 : BitVec 32 := Scalar.addi v2 c17_i32_988
  let c32_i32_989 : BitVec 32 := 32#32
  let v1348 : BitVec 32 := Scalar.remsi v1347 c32_i32_989
  let c1_i32_990 : BitVec 32 := 1#32
  let v1349 : BitVec 32 := Scalar.muli v1348 c1_i32_990
  let v1350 : BitVec 32 := Scalar.addi c0_i32_991 v1349
  v1350.toNat
def k0_dev80 (d0 : Dev nD) : Nat :=
  let c0_i32_999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_996 : BitVec 32 := 18#32
  let v1359 : BitVec 32 := Scalar.addi v2 c18_i32_996
  let c32_i32_997 : BitVec 32 := 32#32
  let v1360 : BitVec 32 := Scalar.remsi v1359 c32_i32_997
  let c1_i32_998 : BitVec 32 := 1#32
  let v1361 : BitVec 32 := Scalar.muli v1360 c1_i32_998
  let v1362 : BitVec 32 := Scalar.addi c0_i32_999 v1361
  v1362.toNat
def k0_dev81 (d0 : Dev nD) : Nat :=
  let c0_i32_1007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1004 : BitVec 32 := 19#32
  let v1371 : BitVec 32 := Scalar.addi v2 c19_i32_1004
  let c32_i32_1005 : BitVec 32 := 32#32
  let v1372 : BitVec 32 := Scalar.remsi v1371 c32_i32_1005
  let c1_i32_1006 : BitVec 32 := 1#32
  let v1373 : BitVec 32 := Scalar.muli v1372 c1_i32_1006
  let v1374 : BitVec 32 := Scalar.addi c0_i32_1007 v1373
  v1374.toNat
def k0_dev82 (d0 : Dev nD) : Nat :=
  let c0_i32_1015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1012 : BitVec 32 := 20#32
  let v1383 : BitVec 32 := Scalar.addi v2 c20_i32_1012
  let c32_i32_1013 : BitVec 32 := 32#32
  let v1384 : BitVec 32 := Scalar.remsi v1383 c32_i32_1013
  let c1_i32_1014 : BitVec 32 := 1#32
  let v1385 : BitVec 32 := Scalar.muli v1384 c1_i32_1014
  let v1386 : BitVec 32 := Scalar.addi c0_i32_1015 v1385
  v1386.toNat
def k0_dev83 (d0 : Dev nD) : Nat :=
  let c0_i32_1023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1020 : BitVec 32 := 21#32
  let v1395 : BitVec 32 := Scalar.addi v2 c21_i32_1020
  let c32_i32_1021 : BitVec 32 := 32#32
  let v1396 : BitVec 32 := Scalar.remsi v1395 c32_i32_1021
  let c1_i32_1022 : BitVec 32 := 1#32
  let v1397 : BitVec 32 := Scalar.muli v1396 c1_i32_1022
  let v1398 : BitVec 32 := Scalar.addi c0_i32_1023 v1397
  v1398.toNat
def k0_dev84 (d0 : Dev nD) : Nat :=
  let c0_i32_1031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1028 : BitVec 32 := 22#32
  let v1407 : BitVec 32 := Scalar.addi v2 c22_i32_1028
  let c32_i32_1029 : BitVec 32 := 32#32
  let v1408 : BitVec 32 := Scalar.remsi v1407 c32_i32_1029
  let c1_i32_1030 : BitVec 32 := 1#32
  let v1409 : BitVec 32 := Scalar.muli v1408 c1_i32_1030
  let v1410 : BitVec 32 := Scalar.addi c0_i32_1031 v1409
  v1410.toNat
def k0_dev85 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1036 : BitVec 32 := 23#32
  let v1419 : BitVec 32 := Scalar.addi v2 c23_i32_1036
  let c32_i32_1037 : BitVec 32 := 32#32
  let v1420 : BitVec 32 := Scalar.remsi v1419 c32_i32_1037
  let c1_i32_1038 : BitVec 32 := 1#32
  let v1421 : BitVec 32 := Scalar.muli v1420 c1_i32_1038
  let v1422 : BitVec 32 := Scalar.addi c0_i32_1039 v1421
  v1422.toNat
def k0_dev86 (d0 : Dev nD) : Nat :=
  let c0_i32_1047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1044 : BitVec 32 := 24#32
  let v1431 : BitVec 32 := Scalar.addi v2 c24_i32_1044
  let c32_i32_1045 : BitVec 32 := 32#32
  let v1432 : BitVec 32 := Scalar.remsi v1431 c32_i32_1045
  let c1_i32_1046 : BitVec 32 := 1#32
  let v1433 : BitVec 32 := Scalar.muli v1432 c1_i32_1046
  let v1434 : BitVec 32 := Scalar.addi c0_i32_1047 v1433
  v1434.toNat
def k0_dev87 (d0 : Dev nD) : Nat :=
  let c0_i32_1055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1052 : BitVec 32 := 25#32
  let v1443 : BitVec 32 := Scalar.addi v2 c25_i32_1052
  let c32_i32_1053 : BitVec 32 := 32#32
  let v1444 : BitVec 32 := Scalar.remsi v1443 c32_i32_1053
  let c1_i32_1054 : BitVec 32 := 1#32
  let v1445 : BitVec 32 := Scalar.muli v1444 c1_i32_1054
  let v1446 : BitVec 32 := Scalar.addi c0_i32_1055 v1445
  v1446.toNat
def k0_dev88 (d0 : Dev nD) : Nat :=
  let c0_i32_1063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1060 : BitVec 32 := 26#32
  let v1455 : BitVec 32 := Scalar.addi v2 c26_i32_1060
  let c32_i32_1061 : BitVec 32 := 32#32
  let v1456 : BitVec 32 := Scalar.remsi v1455 c32_i32_1061
  let c1_i32_1062 : BitVec 32 := 1#32
  let v1457 : BitVec 32 := Scalar.muli v1456 c1_i32_1062
  let v1458 : BitVec 32 := Scalar.addi c0_i32_1063 v1457
  v1458.toNat
def k0_dev89 (d0 : Dev nD) : Nat :=
  let c0_i32_1071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1068 : BitVec 32 := 27#32
  let v1467 : BitVec 32 := Scalar.addi v2 c27_i32_1068
  let c32_i32_1069 : BitVec 32 := 32#32
  let v1468 : BitVec 32 := Scalar.remsi v1467 c32_i32_1069
  let c1_i32_1070 : BitVec 32 := 1#32
  let v1469 : BitVec 32 := Scalar.muli v1468 c1_i32_1070
  let v1470 : BitVec 32 := Scalar.addi c0_i32_1071 v1469
  v1470.toNat
def k0_dev90 (d0 : Dev nD) : Nat :=
  let c0_i32_1079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1076 : BitVec 32 := 28#32
  let v1479 : BitVec 32 := Scalar.addi v2 c28_i32_1076
  let c32_i32_1077 : BitVec 32 := 32#32
  let v1480 : BitVec 32 := Scalar.remsi v1479 c32_i32_1077
  let c1_i32_1078 : BitVec 32 := 1#32
  let v1481 : BitVec 32 := Scalar.muli v1480 c1_i32_1078
  let v1482 : BitVec 32 := Scalar.addi c0_i32_1079 v1481
  v1482.toNat
def k0_dev91 (d0 : Dev nD) : Nat :=
  let c0_i32_1087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1084 : BitVec 32 := 29#32
  let v1491 : BitVec 32 := Scalar.addi v2 c29_i32_1084
  let c32_i32_1085 : BitVec 32 := 32#32
  let v1492 : BitVec 32 := Scalar.remsi v1491 c32_i32_1085
  let c1_i32_1086 : BitVec 32 := 1#32
  let v1493 : BitVec 32 := Scalar.muli v1492 c1_i32_1086
  let v1494 : BitVec 32 := Scalar.addi c0_i32_1087 v1493
  v1494.toNat
def k0_dev92 (d0 : Dev nD) : Nat :=
  let c0_i32_1095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1092 : BitVec 32 := 30#32
  let v1503 : BitVec 32 := Scalar.addi v2 c30_i32_1092
  let c32_i32_1093 : BitVec 32 := 32#32
  let v1504 : BitVec 32 := Scalar.remsi v1503 c32_i32_1093
  let c1_i32_1094 : BitVec 32 := 1#32
  let v1505 : BitVec 32 := Scalar.muli v1504 c1_i32_1094
  let v1506 : BitVec 32 := Scalar.addi c0_i32_1095 v1505
  v1506.toNat
def k0_dev93 (d0 : Dev nD) : Nat :=
  let c0_i32_1103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1100 : BitVec 32 := 31#32
  let v1515 : BitVec 32 := Scalar.addi v2 c31_i32_1100
  let c32_i32_1101 : BitVec 32 := 32#32
  let v1516 : BitVec 32 := Scalar.remsi v1515 c32_i32_1101
  let c1_i32_1102 : BitVec 32 := 1#32
  let v1517 : BitVec 32 := Scalar.muli v1516 c1_i32_1102
  let v1518 : BitVec 32 := Scalar.addi c0_i32_1103 v1517
  v1518.toNat
abbrev stage0_0 : Fin 1 → Memref sig .tc .vmem S768x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S768x768 : Shape := ⟨2, ![768, 768]⟩
abbrev S768x49152 : Shape := ⟨2, ![768, 49152]⟩
abbrev S49152x768 : Shape := ⟨2, ![49152, 768]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S768x768, .bf16⟩
  | .hbm, ⟨1, _⟩ => ⟨S768x49152, .bf16⟩
  | .hbm, ⟨2, _⟩ => ⟨S768x49152, .bf16⟩
  | .hbm, ⟨3, _⟩ => ⟨S49152x768, .bf16⟩
  | .hbm, ⟨4, _⟩ => ⟨S768x768, .f32⟩
  | .hbm, ⟨5, _⟩ => ⟨S768x49152, .f32⟩
  | .hbm, ⟨6, _⟩ => ⟨S768x49152, .f32⟩
  | .hbm, ⟨7, _⟩ => ⟨S768x49152, .f32⟩
  | .hbm, ⟨8, _⟩ => ⟨S768x49152, .f32⟩
  | .hbm, ⟨9, _⟩ => ⟨S768x49152, .f32⟩
  | .hbm, ⟨10, _⟩ => ⟨S768x49152, .f32⟩
  | .hbm, ⟨11, _⟩ => ⟨S_, .f32⟩
  | .hbm, ⟨12, _⟩ => ⟨S768x49152, .f32⟩
  | .hbm, ⟨13, _⟩ => ⟨S768x49152, .f32⟩
  | .hbm, ⟨14, _⟩ => ⟨S768x49152, .f32⟩
  | .hbm, ⟨15, _⟩ => ⟨S768x49152, .f32⟩
  | .hbm, ⟨16, _⟩ => ⟨S49152x768, .f32⟩
  | .hbm, ⟨17, _⟩ => ⟨S768x768, .f32⟩
  | _, _ => ⟨S768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Peers.lean ====
/-
# The 31 peers of a device

The mesh has 32 devices and every device visits the other 31 in the same order: its `r`-th peer is
the device `r + 1` places after it, round the end. The kernel's loops over peers are unrolled, so a
proof walks through 31 equal steps; this file holds what the walk needs and what does not depend on
the program:

* the peers of a device are exactly the other devices, each once;
* a separating conjunction over all devices is the device's own part and its peers' parts;
* the state `St A B n` of a walk in which the first `n` peers are in state `A`, the rest in `B`;
* the debt `owing t n` left after the first `n` steps have paid theirs.
-/
module

public import Idealize.SL.BI.BigOp
public import Idealize.SL.ProofMode.BigOp
public import Idealize.ShloMosaic.Lib.Tactic

@[expose] public section

namespace Cert.Peers

open Idealize.SL Idealize.SL.RA Idealize.SL.BI
open scoped Idealize.SL.BI
open Idealize.SL.BI.BIBase Idealize.SL.BI.Laws Idealize.SL.ProofMode Idealize.SL.Sem

set_option backward.proofsInPublic true in
/-- The `r`-th peer of device `c`: `r + 1` places further round the mesh. -/
def peer (c : Fin 32) (r : Fin 31) : Fin 32 := ⟨(c.val + r.val + 1) % 32, Nat.mod_lt _ (by decide)⟩

theorem peer_val (c : Fin 32) (r : Fin 31) : (peer c r).val = (c.val + r.val + 1) % 32 := rfl

/-- No device is its own peer. -/
theorem peer_ne (c : Fin 32) (r : Fin 31) : peer c r ≠ c := fun h => by
  have := congrArg Fin.val h
  rw [peer_val] at this
  omega

/-- Different positions name different peers. -/
theorem peer_injective (c : Fin 32) : Function.Injective (peer c) := fun r r' h => by
  have := congrArg Fin.val h
  rw [peer_val, peer_val] at this
  exact Fin.ext (by omega)

set_option backward.proofsInPublic true in
/-- The position at which device `s` stands among the peers of `c` (31 places for `c` itself, cut to 30). -/
def pos (c s : Fin 32) : Fin 31 := ⟨min 30 ((s.val + 31 - c.val) % 32), by omega⟩

theorem pos_val (c s : Fin 32) : (pos c s).val = min 30 ((s.val + 31 - c.val) % 32) := rfl

theorem peer_pos {c s : Fin 32} (h : s ≠ c) : peer c (pos c s) = s := by
  have hne : s.val ≠ c.val := fun e => h (Fin.ext e)
  refine Fin.ext ?_
  rw [peer_val, pos_val]
  omega

theorem pos_peer (c : Fin 32) (r : Fin 31) : pos c (peer c r) = r :=
  peer_injective c (peer_pos (peer_ne c r))

/-- The other devices are the peers. -/
theorem erase_eq_peers (c : Fin 32) :
    (Finset.univ : Finset (Fin 32)).erase c = Finset.univ.map ⟨peer c, peer_injective c⟩ := by
  ext s
  constructor
  · intro h
    exact Finset.mem_map.mpr ⟨pos c s, Finset.mem_univ _, peer_pos (Finset.ne_of_mem_erase h)⟩
  · intro h
    obtain ⟨r, -, rfl⟩ := Finset.mem_map.mp h
    exact Finset.mem_erase.mpr ⟨peer_ne c r, Finset.mem_univ _⟩

/-! ## Conjunctions over the devices -/

section Sep
universe u
variable {M : Type u} [URA M]

/-- Over the other devices: over the peers. -/
theorem bigSep_erase_peers (c : Fin 32) (Φ : Fin 32 → sProp M) :
    bigSep (Finset.univ.erase c) Φ = bigSep Finset.univ fun r : Fin 31 => Φ (peer c r) := by
  rw [erase_eq_peers, bigSep_map]
  rfl

/-- Over all devices: one's own part and the peers'. -/
theorem bigSep_peers (c : Fin 32) (Φ : Fin 32 → sProp M) :
    bigSep Finset.univ Φ = iprop(Φ c ∗ bigSep Finset.univ fun r : Fin 31 => Φ (peer c r)) := by
  rw [bigSep_univ_at Φ c, bigSep_erase_peers]

/-- A family over pairs of a device and a peer, read from the other end. -/
theorem bigSep_swap_peers (Φ : Fin 32 → Fin 32 → sProp M) :
    (bigSep Finset.univ fun c => bigSep Finset.univ fun r : Fin 31 => Φ c (peer c r))
      = bigSep Finset.univ fun c => bigSep Finset.univ fun r : Fin 31 => Φ (peer c r) c := by
  rw [← bigSep_congr (s := Finset.univ) fun c _ => bigSep_erase_peers c (Φ c),
    ← bigSep_congr (s := Finset.univ) fun c _ => bigSep_erase_peers c (fun d => Φ d c)]
  exact bigSep_erase_comm Φ

/-! ## A walk over `N` positions -/

variable {N : ℕ}

/-- The state of a walk: the first `n` positions in state `A`, the others still in `B`. -/
def St (A B : Fin N → sProp M) (n : ℕ) : sProp M :=
  bigSep Finset.univ fun r : Fin N => if r.val < n then A r else B r

/-- Nothing walked: everything in `B`. -/
theorem St_zero (A B : Fin N → sProp M) : St A B 0 = bigSep Finset.univ B :=
  bigSep_congr fun r _ => if_neg (Nat.not_lt_zero _)

/-- All walked: everything in `A`. -/
theorem St_all (A B : Fin N → sProp M) : St A B N = bigSep Finset.univ A :=
  bigSep_congr fun r _ => if_pos r.isLt

/-- One step: position `r` comes out in `B`, and goes back in `A`. -/
theorem St_step (A B : Fin N → sProp M) (r : Fin N) :
    St A B r.val ⊢ iprop(B r ∗ (A r -∗ St A B (r.val + 1))) := by
  unfold St
  refine (bigSep_univ_update (Ψ := fun j : Fin N => if j.val < r.val + 1 then A j else B j) r
    fun j hj => ?_).trans ?_
  · have hv : j.val ≠ r.val := fun e => hj (Fin.ext e)
    by_cases h : j.val < r.val
    · rw [if_pos h, if_pos (by omega)]
    · rw [if_neg h, if_neg (by omega)]
  · rw [if_neg (Nat.lt_irrefl _), if_pos (Nat.lt_succ_self _)]

end Sep

/-! ## A debt paid in steps -/

section Debt
variable {T : Type} [AddCommMonoid T] {N : ℕ}

/-- What is owed when the first `n` of the positions have paid. -/
def owing (t : Fin N → T) (n : ℕ) : T := ∑ r : Fin N, if r.val < n then 0 else t r

/-- One payment. -/
theorem owing_step (t : Fin N → T) (r : Fin N) : owing t r.val = owing t (r.val + 1) + t r := by
  unfold owing
  rw [← Finset.add_sum_erase _ _ (Finset.mem_univ r), ← Finset.add_sum_erase (a := r) _ (fun j : Fin N => if j.val < r.val + 1 then 0 else t j) (Finset.mem_univ r)]
  rw [if_neg (Nat.lt_irrefl _), if_pos (Nat.lt_succ_self _), zero_add, add_comm]
  congr 1
  refine Finset.sum_congr rfl fun j hj => ?_
  have hv : j.val ≠ r.val := fun e => (Finset.ne_of_mem_erase hj) (Fin.ext e)
  by_cases h : j.val < r.val
  · rw [if_pos h, if_pos (by omega)]
  · rw [if_neg h, if_neg (by omega)]

/-- All paid. -/
theorem owing_all (t : Fin N → T) : owing t N = 0 :=
  Finset.sum_eq_zero fun r _ => if_pos r.isLt

/-- Nothing paid. -/
theorem owing_zero (t : Fin N → T) : owing t 0 = ∑ r : Fin N, t r :=
  Finset.sum_congr rfl fun r _ => if_neg (Nat.not_lt_zero _)

end Debt

end Cert.Peers
-- ==== Proof.Geometry.lean ====
/-
# Slots and row blocks

Each scratch buffer is 32 slots of 24 rows of 768 elements. The program addresses a slot in two ways:
a transfer names the slice with its first axis dropped, a load or store names the slice itself. Here
both are read off coordinate by coordinate, for any buffer of that shape in any signature:

* `slotView_emb`, `slotAccess_emb`: which element an index of the slice is;
* `slot_disjoint`, `slot_cover`: different slots share no element, together they are the buffer;
* `slotView_set`, `slotAccess_set`: the elements of a slice are its slot;
* `land_eq`: what a transfer of one slot into another leaves there;
* the same for the 32 blocks of 24 rows of the result, and for the value stored in a slot.
-/
module

public import Idealize.ShloMosaic.Lib.ValueLayout
public import Idealize.ShloMosaic.Lib.Pointwise.Reshape
public import Idealize.ShloMosaic.Lib.Pipeline.Value
public import Idealize.ShloMosaic.Lib.Tactic

@[expose] public section

namespace Cert.Geometry

open Idealize.ShloMosaic

/-- A scratch buffer, a slot with its leading axis, a slot without it, the result. -/
abbrev T32 : Shape := ⟨3, ![32, 24, 768]⟩
abbrev T1 : Shape := ⟨3, ![1, 24, 768]⟩
abbrev T2 : Shape := ⟨2, ![24, 768]⟩
abbrev TO : Shape := ⟨2, ![768, 768]⟩

/-- The elements of slot `s`. -/
def slot (s : Fin 32) : Finset T32.Idx := Finset.univ.filter fun i => (i 0).val = s.val

theorem mem_slot {s : Fin 32} {i : T32.Idx} : i ∈ slot s ↔ (i 0 : Fin 32) = s := by
  unfold slot
  rw [Finset.mem_filter]
  exact ⟨fun h => Fin.ext h.2, fun h => ⟨Finset.mem_univ _, congrArg Fin.val h⟩⟩

/-- Different slots share no element. -/
theorem slot_disjoint (s s' : Fin 32) (h : s ≠ s') : Disjoint (slot s) (slot s') :=
  Finset.disjoint_left.mpr fun _ hi hi' => h ((mem_slot.mp hi).symm.trans (mem_slot.mp hi'))

/-- The slots make up the buffer. -/
theorem slot_cover : Finset.univ.biUnion slot = Finset.univ :=
  Finset.eq_univ_iff_forall.mpr fun i => Finset.mem_biUnion.mpr ⟨(i 0 : Fin 32), Finset.mem_univ _, mem_slot.mpr rfl⟩

section Views
variable {sig : RefSig} {κ : Kind} {sp : Space} {e : EltTy} (m : Memref sig κ sp T32 e)
variable {off : Fin 3 → ℕ} {s : Fin 32} (ho : off = ![s.val, 0, 0])
  (inb : ∀ a, off a + T1.size a ≤ T32.size a)

include ho

/-- Index `j` of the slice at slot `s` is row `j 1`, column `j 2` of that slot. -/
theorem slotAccess_emb (j : T1.Idx) :
    (m.access (Rect.unit (s := T32) off T1.size inb)).emb j = m.view.emb (ix3 s (j 1 : Fin 24) (j 2 : Fin 768)) := by
  subst ho
  refine congrArg m.view.emb (funext fun a => Fin.ext ?_)
  have h0 : (j 0).val < 1 := (j 0).isLt
  fin_cases a
  · show s.val + 1 * (j 0).val = s.val
    omega
  · show 0 + 1 * (j 1).val = (j 1).val
    omega
  · show 0 + 1 * (j 2).val = (j 2).val
    omega

/-- Index `x` of the slice at slot `s`, its leading axis dropped, is row `x 0`, column `x 1` of that slot. -/
theorem slotView_emb (hr : ∀ a, (Rect.unit (s := T32) off T1.size inb).stride a = 1)
    (sq : (Rect.unit (s := T32) off T1.size inb).shape.Squeezes T2) (x : T2.Idx) :
    ((m.slice (Rect.unit (s := T32) off T1.size inb) hr).squeeze T2 sq).view.emb x
      = m.view.emb (ix3 s (x 0 : Fin 24) (x 1 : Fin 768)) := by
  refine Eq.trans (show _ = (m.access (Rect.unit (s := T32) off T1.size inb)).emb (Shape.reshapeEquiv sq.numel_eq x) from rfl) ?_
  rw [slotAccess_emb m ho inb]
  have hre : Shape.reshapeEquiv sq.numel_eq x = (ix3 (0 : Fin 1) (x 0 : Fin 24) (x 1 : Fin 768) : T1.Idx) :=
    Shape.reshapeEquiv_eq_of_rowMajor _ (by
      rw [Shape.rowMajor_val_three, Shape.rowMajor_val_two]
      show (0 * 24 + (x 0).val) * 768 + (x 1).val = (x 0).val * 768 + (x 1).val
      rw [Nat.zero_mul, Nat.zero_add])
  rw [hre]
  rfl

end Views

section Sets
variable {sig : RefSig} {κ : Kind} {sp : Space} {e : EltTy} (m : Memref sig κ sp T32 e)
variable {off : Fin 3 → ℕ} {s : Fin 32} (ho : off = ![s.val, 0, 0])
  (inb : ∀ a, off a + T1.size a ≤ T32.size a)

include ho

/-- The elements a load or store at slot `s` touches. -/
theorem slotAccess_set : (m.access (Rect.unit (s := T32) off T1.size inb)).set = (slot s).map m.view.emb := by
  ext i
  unfold View.set
  constructor
  · intro h
    obtain ⟨j, -, rfl⟩ := Finset.mem_map.mp h
    rw [slotAccess_emb m ho inb]
    exact Finset.mem_map_of_mem _ (mem_slot.mpr rfl)
  · intro h
    obtain ⟨i, hi, rfl⟩ := Finset.mem_map.mp h
    refine Finset.mem_map.mpr ⟨(ix3 (0 : Fin 1) (i 1 : Fin 24) (i 2 : Fin 768) : T1.Idx), Finset.mem_univ _, ?_⟩
    rw [slotAccess_emb m ho inb]
    refine congrArg m.view.emb ?_
    rw [eq_ix3 i, ← mem_slot.mp hi]
    rfl

/-- The elements a transfer at slot `s` touches. -/
theorem slotView_set (hr : ∀ a, (Rect.unit (s := T32) off T1.size inb).stride a = 1)
    (sq : (Rect.unit (s := T32) off T1.size inb).shape.Squeezes T2) :
    ((m.slice (Rect.unit (s := T32) off T1.size inb) hr).squeeze T2 sq).view.set = (slot s).map m.view.emb := by
  rw [← slotAccess_set m ho inb]
  exact View.set_reshape _ _

end Sets

/-- A transfer of slot `p` of one buffer into slot `s` of another leaves, at row `a`, column `b` of slot
    `s`, what the source has at row `a`, column `b` of slot `p`. -/
theorem land_eq {sig : RefSig} {κ κ' : Kind} {sp sp' : Space} {e : EltTy} {Val : EltTy → Type}
    (m : Memref sig κ sp T32 e) (m' : Memref sig κ' sp' T32 e)
    {off off' : Fin 3 → ℕ} {p s : Fin 32} (ho : off = ![p.val, 0, 0]) (ho' : off' = ![s.val, 0, 0])
    (inb : ∀ a, off a + T1.size a ≤ T32.size a) (inb' : ∀ a, off' a + T1.size a ≤ T32.size a)
    (hr : ∀ a, (Rect.unit (s := T32) off T1.size inb).stride a = 1)
    (hr' : ∀ a, (Rect.unit (s := T32) off' T1.size inb').stride a = 1)
    (sq : (Rect.unit (s := T32) off T1.size inb).shape.Squeezes T2)
    (sq' : (Rect.unit (s := T32) off' T1.size inb').shape.Squeezes T2)
    (f : m.view.ty.Contents Val) (g : m'.view.ty.Contents Val) (i : T32.Idx) (hi : (i 0 : Fin 32) = s) :
    m'.view.read Val (((m'.slice (Rect.unit (s := T32) off' T1.size inb') hr').squeeze T2 sq').view.write Val g
        (((m.slice (Rect.unit (s := T32) off T1.size inb) hr).squeeze T2 sq).view.read Val f) Finset.univ) i
      = m.view.read Val f (ix3 p (i 1 : Fin 24) (i 2 : Fin 768)) := by
  have hx := slotView_emb m' ho' inb' hr' sq' (ix2 (i 1 : Fin 24) (i 2 : Fin 768))
  have hi' : (ix3 s ((ix2 (i 1 : Fin 24) (i 2 : Fin 768) : T2.Idx) 0) ((ix2 (i 1 : Fin 24) (i 2 : Fin 768) : T2.Idx) 1) : T32.Idx) = i := by
    rw [← hi]; exact (eq_ix3 i).symm
  rw [hi'] at hx
  have hs := slotView_emb m ho inb hr sq (ix2 (i 1 : Fin 24) (i 2 : Fin 768))
  have key := congrFun (View.read_write_univ (v := ((m'.slice (Rect.unit (s := T32) off' T1.size inb') hr').squeeze T2 sq').view) (Val := Val) g
    (((m.slice (Rect.unit (s := T32) off T1.size inb) hr).squeeze T2 sq).view.read Val f)) (ix2 (i 1 : Fin 24) (i 2 : Fin 768))
  unfold View.read at key ⊢
  rw [hx, hs] at key
  exact key

/-! ## Loads and stores of a slot -/

section Access
variable {sig : RefSig} {κ : Kind} {sp : Space} {e : EltTy} {Val : EltTy → Type} (m : Memref sig κ sp T32 e)
variable {off : Fin 3 → ℕ} {s : Fin 32} (ho : off = ![s.val, 0, 0])
  (inb : ∀ a, off a + T1.size a ≤ T32.size a)

include ho

/-- A load of slot `s` reads its rows. -/
theorem load_slot (f : m.view.ty.Contents Val) (j : T1.Idx) :
    m.view.readAt Val (Rect.unit (s := T32) off T1.size inb).toLoadRect f j
      = m.view.read Val f (ix3 s (j 1 : Fin 24) (j 2 : Fin 768)) := by
  have h : (m.access (Rect.unit (s := T32) off T1.size inb)).read Val f j
      = m.view.read Val f (ix3 s (j 1 : Fin 24) (j 2 : Fin 768)) := by
    unfold View.read
    rw [slotAccess_emb m ho inb]
  exact h

/-- A store at slot `s` puts its value there, -/
theorem store_slot_in (f : m.view.ty.Contents Val) (w : T1.Idx → Val e) (i : T32.Idx) (hi : (i 0 : Fin 32) = s) :
    m.view.read Val ((m.access (Rect.unit (s := T32) off T1.size inb)).write Val f w Finset.univ) i
      = w (ix3 (0 : Fin 1) (i 1 : Fin 24) (i 2 : Fin 768)) := by
  have hx := slotAccess_emb m ho inb (ix3 (0 : Fin 1) (i 1 : Fin 24) (i 2 : Fin 768))
  have hi' : (ix3 s ((ix3 (0 : Fin 1) (i 1 : Fin 24) (i 2 : Fin 768) : T1.Idx) 1)
      ((ix3 (0 : Fin 1) (i 1 : Fin 24) (i 2 : Fin 768) : T1.Idx) 2) : T32.Idx) = i := by
    rw [← hi]; exact (eq_ix3 i).symm
  rw [hi'] at hx
  have key := congrFun (View.read_write_univ (v := m.access (Rect.unit (s := T32) off T1.size inb)) (Val := Val) f w)
    (ix3 (0 : Fin 1) (i 1 : Fin 24) (i 2 : Fin 768))
  unfold View.read at key ⊢
  rw [hx] at key
  exact key

/-- and leaves the other slots as they were. -/
theorem store_slot_out (f : m.view.ty.Contents Val) (w : T1.Idx → Val e) (i : T32.Idx) (hi : (i 0 : Fin 32) ≠ s) :
    m.view.read Val ((m.access (Rect.unit (s := T32) off T1.size inb)).write Val f w Finset.univ) i
      = m.view.read Val f i := by
  unfold View.read
  rw [View.write_of_not_mem]
  intro h
  have h' : m.view.emb i ∈ (m.access (Rect.unit (s := T32) off T1.size inb)).set := View.setOn_subset_set _ _ h
  rw [slotAccess_set m ho inb] at h'
  obtain ⟨i', hm, he⟩ := Finset.mem_map.mp h'
  exact hi (m.view.emb.injective he ▸ mem_slot.mp hm)

end Access

/-! ## Stores of a row block of the result -/

section Rows
variable {sig : RefSig} {κ : Kind} {sp : Space} {e : EltTy} {Val : EltTy → Type} (m : Memref sig κ sp TO e)
variable {off : Fin 2 → ℕ} {k : ℕ} (ho : off = ![24 * k, 0])
  (inb : ∀ a, off a + T2.size a ≤ TO.size a)

include ho

theorem rowAccess_emb (x : T2.Idx) (i : TO.Idx) (h0 : (i 0).val = 24 * k + (x 0).val) (h1 : (i 1).val = (x 1).val) :
    (m.access (Rect.unit (s := TO) off T2.size inb)).emb x = m.view.emb i := by
  subst ho
  refine congrArg m.view.emb (funext fun a => Fin.ext ?_)
  fin_cases a
  · show 24 * k + 1 * (x 0).val = (i 0).val
    omega
  · show 0 + 1 * (x 1).val = (i 1).val
    omega

/-- A store of row block `k` puts its value there, -/
theorem store_rows_in (f : m.view.ty.Contents Val) (w : T2.Idx → Val e) (i : TO.Idx) (x : T2.Idx)
    (h0 : (i 0).val = 24 * k + (x 0).val) (h1 : (i 1).val = (x 1).val) :
    m.view.read Val ((m.access (Rect.unit (s := TO) off T2.size inb)).write Val f w Finset.univ) i = w x := by
  have hx := rowAccess_emb m ho inb x i h0 h1
  have key := congrFun (View.read_write_univ (v := m.access (Rect.unit (s := TO) off T2.size inb)) (Val := Val) f w) x
  unfold View.read at key ⊢
  rw [hx] at key
  exact key

/-- and leaves the other rows as they were. -/
theorem store_rows_out (f : m.view.ty.Contents Val) (w : T2.Idx → Val e) (i : TO.Idx)
    (hi : (i 0).val < 24 * k ∨ 24 * (k + 1) ≤ (i 0).val) :
    m.view.read Val ((m.access (Rect.unit (s := TO) off T2.size inb)).write Val f w Finset.univ) i
      = m.view.read Val f i := by
  unfold View.read
  rw [View.write_of_not_mem]
  intro h
  obtain ⟨x, -, he⟩ := Finset.mem_map.mp h
  have hx : (x 0).val < 24 := (x 0).isLt
  have h1 : (x 1).val < 768 := (x 1).isLt
  have hb : 24 * k + (x 0).val < 768 := by
    have := inb 0
    rw [ho] at this
    have h24 : 24 * k + 24 ≤ 768 := this
    omega
  have he' := rowAccess_emb m ho inb x (ix2 (⟨24 * k + (x 0).val, hb⟩ : Fin 768) (⟨(x 1).val, h1⟩ : Fin 768)) rfl rfl
  rw [he'] at he
  have h0 := congrArg (fun i : TO.Idx => (i 0).val) (m.view.emb.injective he)
  have h0' : 24 * k + (x 0).val = (i 0).val := h0
  omega

end Rows

/-! ## The values stored and loaded -/

section Values
variable {α : Type}

/-- A 24-row value given a leading axis of one. -/
theorem cast_T1 (x : T2.Idx → α) (h : T2.ShapeCasts T1) (a : Fin 24) (b : Fin 768) :
    shapeCast T1 x h (ix3 (0 : Fin 1) a b) = x (ix2 a b) :=
  shapeCast_apply x h _ _ (by
    rw [Shape.rowMajor_val_three, Shape.rowMajor_val_two]
    show a.val * 768 + b.val = (0 * 24 + a.val) * 768 + b.val
    rw [Nat.zero_mul, Nat.zero_add])

/-- A slot's value, its leading axis dropped. -/
theorem cast_T2 (x : T1.Idx → α) (h : T1.ShapeCasts T2) (a : Fin 24) (b : Fin 768) :
    shapeCast T2 x h (ix2 a b) = x (ix3 (0 : Fin 1) a b) :=
  shapeCast_apply x h _ _ (by
    rw [Shape.rowMajor_val_three, Shape.rowMajor_val_two]
    show (0 * 24 + a.val) * 768 + b.val = a.val * 768 + b.val
    rw [Nat.zero_mul, Nat.zero_add])

/-- A cast of a shape to itself changes nothing. -/
theorem cast_same {s : Shape} (x : s.Idx → α) (h : s.ShapeCasts s) : shapeCast s x h = x :=
  funext fun j => shapeCast_apply x h j j rfl

/-- The 24 rows of a matrix that start at row `o`. -/
theorem rows_at (x : TO.Idx → α) {o : ℕ} (h : TO.Slices ![o, 0] T2) (a : Fin 24) (b : Fin 768) (r : Fin 768) (hr : r.val = o + a.val) :
    extractStridedSlice T2 ![o, 0] x h (ix2 a b) = x (ix2 r b) :=
  extractStridedSlice_apply _ x h _ _ (by
    intro i
    fin_cases i
    · exact hr
    · show b.val = 0 + b.val
      omega)

end Values

end Cert.Geometry
-- ==== Proof.KernelIdeal.Slots.lean ====
/-
# Buffers, semaphores and contents of one device

Names for what the kernel's body works on, at any float instance:

* the five staged operands and the three scratch buffers: the partial products to be sent out
  (`pM`), the chunks received in the first exchange (`cM`), the reduced chunks (`gM`);
* the semaphores: the barrier and four arrays of 32 (`dsem a s`: send and receive of the first
  exchange, send and receive of the second);
* the contents: `prod c`, the 768×768 partial product of device `c`; `partB`, `commB`, `gathB`, `outB`,
  what each buffer holds when its phase is done.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Peers
public import proofs.«01_k».proof.Proof.Geometry
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.KernelIdeal.Mlp

open Cert.KernelIdeal Cert.KernelIdeal.Gen Cert.Peers Cert.Geometry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Buffers -/

abbrev xM : Memref sig .tc .vmem S768x768 .bf16 := Memref.whole cc0_stg0_0
abbrev wgM : Memref sig .tc .vmem S768x1536 .bf16 := Memref.whole cc0_stg1_0
abbrev wuM : Memref sig .tc .vmem S768x1536 .bf16 := Memref.whole cc0_stg2_0
abbrev wdM : Memref sig .tc .vmem S1536x768 .bf16 := Memref.whole cc0_stg3_0
abbrev oM : Memref sig .tc .vmem S768x768 .f32 := Memref.whole cc0_stg4_0
abbrev pM : Memref sig .tc .vmem S32x24x768 .bf16 := Memref.whole cc0_scratch0
abbrev cM : Memref sig .tc .vmem S32x24x768 .bf16 := Memref.whole cc0_scratch1
abbrev gM : Memref sig .tc .vmem S32x24x768 .bf16 := Memref.whole cc0_scratch2

abbrev pLoc (d : Dev nD) : Loc nD τ sig := (d : Thread nD τ).loc cc0_scratch0
abbrev cLoc (d : Dev nD) : Loc nD τ sig := (d : Thread nD τ).loc cc0_scratch1
abbrev gLoc (d : Dev nD) : Loc nD τ sig := (d : Thread nD τ).loc cc0_scratch2
abbrev oLoc (d : Dev nD) : Loc nD τ sig := (d : Thread nD τ).loc cc0_stg4_0

/-- The slice of a scratch buffer a transfer names: one slot, its leading axis dropped. -/
abbrev slotM (b : Memref sig .tc .vmem S32x24x768 .bf16) (off : Fin 3 → ℕ) (inb : ∀ a, off a + S1x24x768.size a ≤ S32x24x768.size a) :
    Memref sig .tc .vmem S24x768 .bf16 :=
  (b.slice (Rect.unit (s := S32x24x768) off S1x24x768.size inb) (fun _ => rfl)).squeeze S24x768 squeezes_S1x24x768_S24x768

/-! ## Semaphores -/

/-- The runtime's barrier semaphore. -/
abbrev barS : Sem sig := (SemArray.scalar (sig.barrier 0 rfl) : Sems sig S_).sem

/-- Semaphore `s` of array `a`: arrays 0 and 1 are the first exchange's send and receive semaphores, 2 and 3 the second's. -/
def dsem (a : Fin 4) (s : Fin 32) : DmaSem sig := (⟨5 + 32 * a.val + s.val, by omega⟩ : Fin 133)

theorem dsem_val (a : Fin 4) (s : Fin 32) : (dsem a s).val = 5 + 32 * a.val + s.val := rfl

/-- The semaphore the program names by a slice of an array that starts at `5 + 32 a`. -/
theorem sem_slice (a : Fin 4) (base : ℕ) (hb : base = 5 + 32 * a.val) (h : base + S32.numel ≤ 133) {off : Fin 1 → ℕ} {s : Fin 32}
    (ho : off = ![s.val]) (inb : ∀ i, off i + S1.size i ≤ S32.size i) (sq : (Rect.unit (s := S32) off S1.size inb).shape.Squeezes S_) :
    (((SemArray.consecutive base S32 h : DmaSems sig S32).slice (Rect.unit (s := S32) off S1.size inb)).squeeze S_ sq).sem = dsem a s := by
  subst ho hb
  refine Fin.ext ?_
  unfold SemArray.sem
  rw [SemArray.ix_squeeze, SemArray.ix_slice]
  generalize hj : Shape.reshapeEquiv sq.numel_eq (fun i : Fin 0 => i.elim0 : S_.Idx) = j
  show 5 + 32 * a.val + (S32.rowMajor ((Rect.unit (s := S32) ![s.val] S1.size inb).emb j)).val = 5 + 32 * a.val + s.val
  rw [Shape.rowMajor_val_one]
  have hj0 : (j 0).val < 1 := (j 0).isLt
  show 5 + 32 * a.val + (s.val + 1 * (j 0).val) = 5 + 32 * a.val + s.val
  omega

/-- The cells of one device: the barrier, and the 128 semaphores of the four arrays. -/
abbrev CIx : Type := Option (Fin 4 × Fin 32)

def csem : CIx → SemLoc sig
  | none => .reg barS
  | some (a, s) => .dma (dsem a s)

/-- Which cell a semaphore is, if any. -/
def kindOf : SemLoc sig → Option CIx
  | .reg q => if q = barS then some none else none
  | .dma q => if h : 5 ≤ q.val ∧ q.val < 133 then
      some (some (⟨(q.val - 5) / 32, by omega⟩, ⟨(q.val - 5) % 32, Nat.mod_lt _ (by decide)⟩)) else none

theorem kindOf_csem (k : CIx) : kindOf (csem k) = some k := by
  rcases k with _ | ⟨a, s⟩
  · show (if barS = barS then some none else none) = some (none : CIx)
    rw [if_pos rfl]
  · have hv := dsem_val a s
    unfold csem kindOf
    dsimp only
    rw [dif_pos ⟨by omega, by omega⟩]
    congr 3
    · exact Fin.ext (by show ((dsem a s).val - 5) / 32 = a.val; omega)
    · exact Fin.ext (by show ((dsem a s).val - 5) % 32 = s.val; omega)

theorem csem_injective : Function.Injective csem := fun k k' h => by
  have := congrArg kindOf h
  rw [kindOf_csem, kindOf_csem] at this
  exact Option.some.inj this

/-- A cell of the mesh: device and semaphore. -/
abbrev cellAt (c : Dev nD) (k : CIx) : GSem nD τ sig := ((c : Thread nD τ), csem k)

abbrev barCell (c : Dev nD) : GSem nD τ sig := ((c : Thread nD τ), .reg barS)
abbrev dmaCell (a : Fin 4) (c : Dev nD) (s : Fin 32) : GSem nD τ sig := ((c : Thread nD τ), .dma (dsem a s))

/-- The credit of a transfer of one slot. -/
def N : ℕ := (slotM cM ![0, 0, 0] inb_S32x24x768_S1x24x768_0_0_0).view.dmaCredit

theorem N_pos : 0 < N := View.dmaCredit_pos _ (by decide)

theorem credit_c (off inb) : (slotM cM off inb).view.dmaCredit = N := rfl
theorem credit_g (off inb) : (slotM gM off inb).view.dmaCredit = N := rfl
theorem credit_p (off inb) : (slotM pM off inb).view.dmaCredit = N := rfl

/-! ## Contents -/

variable (m : (ℓ : Loc nD τ sig) → Buf (Elt F) ℓ)

/-- What the launch stages: the device's `x` and its blocks of the three weight matrices. -/
def xstg (c : Dev nD) : (cc0_stg0_0 : Ref sig .tc).ty.Contents (Elt F) :=
  (win0_0.blk (0 : Fin 1)).view.read (Elt F) (m ((c : Thread nD τ).loc main_arg0))
def wgstg (c : Dev nD) : (cc0_stg1_0 : Ref sig .tc).ty.Contents (Elt F) :=
  (win0_1.blk (0 : Fin 1)).view.read (Elt F) (m ((c : Thread nD τ).loc main_arg1))
def wustg (c : Dev nD) : (cc0_stg2_0 : Ref sig .tc).ty.Contents (Elt F) :=
  (win0_2.blk (0 : Fin 1)).view.read (Elt F) (m ((c : Thread nD τ).loc main_arg2))
def wdstg (c : Dev nD) : (cc0_stg3_0 : Ref sig .tc).ty.Contents (Elt F) :=
  (win0_3.blk (0 : Fin 1)).view.read (Elt F) (m ((c : Thread nD τ).loc main_arg3))

/-- Device `c`'s partial product. -/
def prod (c : Dev nD) : S768x768.Idx → Elt F .bf16 := k0_pay1 (xstg m c) (wgstg m c) (wustg m c) (wdstg m c)

/-- Row `24 k + a` of a 768-row matrix. -/
def row (k : Fin 32) (a : Fin 24) : Fin 768 := ⟨24 * k.val + a.val, by omega⟩

/-- The partial products by slots: slot `k` holds rows `24 k` to `24 k + 23`. -/
def partB (c : Dev nD) : S32x24x768.Idx → Elt F .bf16 := fun i => prod m c (ix2 (row (i 0) (i 1)) (i 2 : Fin 768))

/-- The chunks received: slot `s` holds device `s`'s partial product's rows of chunk `c`. -/
def commB (c : Dev nD) : S32x24x768.Idx → Elt F .bf16 := fun i => partB m (i 0 : Fin 32) (ix3 c (i 1 : Fin 24) (i 2 : Fin 768))

/-- The reduced chunk of device `c`. -/
def redB (c : Dev nD) : S1x24x768.Idx → Elt F .bf16 := k0_pay40 (commB m c)

/-- The reduced chunks by slots: the same on every device. -/
def gathB : S32x24x768.Idx → Elt F .bf16 := fun i => redB m (i 0 : Fin 32) (ix3 (0 : Fin 1) (i 1 : Fin 24) (i 2 : Fin 768))

/-- Slot `k` of the reduced chunks as a load reads it. -/
def gathSlot (k : Fin 32) : S1x24x768.Idx → Elt F .bf16 := fun j => gathB m (ix3 k (j 1 : Fin 24) (j 2 : Fin 768))

/-- The result: row `24 k + a` is row `a` of slot `k`, widened. -/
def outB : S768x768.Idx → Elt F .f32 := fun i =>
  k0_pay41 (gathSlot m ⟨(i 0).val / 24, by have : (i 0).val < 768 := (i 0).isLt; omega⟩)
    (ix2 (⟨(i 0).val % 24, Nat.mod_lt _ (by decide)⟩ : Fin 24) (i 1 : Fin 768))

end Cert.KernelIdeal.Mlp

end
-- ==== Proof.KernelIdeal.Schedule.lean ====
/-
# The protocol: who pays which semaphore, and with what

One round per cell. A device's barrier cell is paid one unit by each of the other devices, each
handing over the slot of its two receive buffers that the barrier's owner will write. A receive cell
is paid by the one transfer into its slot and hands its owner that slot filled; a send cell is paid
by the one transfer out and hands back what the transfer read: the slot of the partial products in
the first exchange, a read share of the device's own reduced chunk in the second, where 31 transfers
read the one chunk. A cell of a device's own index is never paid.

Levels: barrier cells below the first exchange's receive cells, those below the second's. A device
waits on its barrier owing receive credits only, on the first exchange owing the second's only.
-/
module

public import proofs.«01_k».proof.Proof.KernelIdeal.Slots

@[expose] public section

set_option maxRecDepth 20000

noncomputable section

namespace Cert.KernelIdeal.Mlp

open Cert.KernelIdeal Cert.KernelIdeal.Gen Cert.Peers Cert.Geometry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Slots held -/

/-- Slot `s` of device `d`'s partial products, received chunks, reduced chunks, held at contents `f`. -/
def pSlot (d : Dev nD) (s : Fin 32) (f : Buf (Elt F) (pLoc d)) : sProp 𝕄 := pLoc d ↦[slot s]{fullShare} f
def cSlot (d : Dev nD) (s : Fin 32) (f : Buf (Elt F) (cLoc d)) : sProp 𝕄 := cLoc d ↦[slot s]{fullShare} f
def gSlotQ (q : PosShare TreeShare) (d : Dev nD) (s : Fin 32) (f : Buf (Elt F) (gLoc d)) : sProp 𝕄 := gLoc d ↦[slot s]{q} f
abbrev gSlot (d : Dev nD) (s : Fin 32) (f : Buf (Elt F) (gLoc d)) : sProp 𝕄 := gSlotQ fullShare d s f

/-- The read share of the own reduced chunk that goes with the transfer to peer `r`. -/
abbrev tok (r : Fin 31) : PosShare TreeShare := Transfers.shareTok fullShare 31 r
/-- What is left of it meanwhile. -/
abbrev rest : PosShare TreeShare := Transfers.shareDrop fullShare 31

omit [FloatOps F] in
instance pSlot_storable (d s f) : BI.Storable (upEmb : UEmb _ 𝕄) (pSlot (F := F) d s f) := by unfold pSlot; infer_instance
omit [FloatOps F] in
instance cSlot_storable (d s f) : BI.Storable (upEmb : UEmb _ 𝕄) (cSlot (F := F) d s f) := by unfold cSlot; infer_instance
omit [FloatOps F] in
instance gSlotQ_storable (q d s f) : BI.Storable (upEmb : UEmb _ 𝕄) (gSlotQ (F := F) q d s f) := by unfold gSlotQ; infer_instance

/-! ## The schedule -/

/-- What device `d`'s signal hands device `c`: slot `c` of its two receive buffers. -/
def barPay (c d : Dev nD) : sProp 𝕄 := iprop((∃ f, cSlot d c f) ∗ ∃ f, gSlot d c f)

/-- What completing cell `(a, s)` of device `c` hands it. -/
def dmaPay (a : Fin 4) (c : Dev nD) (s : Fin 32) : sProp 𝕄 := match a with
  | 0 => pSlot c s (partB m c)
  | 1 => cSlot c s (commB m c)
  | 2 => gSlotQ (tok (pos c s)) c c (gathB m)
  | 3 => gSlot c s (gathB m)

/-- What duty `d` of a cell of device `c` hands over. -/
def pay (c : Dev nD) (d : Fin 32) : Option CIx → sProp 𝕄
  | some none => barPay c d
  | some (some (a, s)) => dmaPay m a c s
  | none => iprop(emp)

/-- The duties of a cell of device `c`, by the paying device (a DMA cell's by its own index). -/
def dutiesOf (c : Dev nD) : Option CIx → Finset (Fin 32)
  | some none => Finset.univ.erase c
  | some (some (_, s)) => if s = c then ∅ else {s}
  | none => ∅

def amountOf : Option CIx → ℕ
  | some none => 1
  | _ => N

theorem amountOf_pos (k : Option CIx) : 0 < amountOf k := by
  rcases k with _ | _ | _
  · exact N_pos
  · exact Nat.one_pos
  · exact N_pos

/-- The schedule of the whole mesh: everything is in round 0. -/
def Rd : Rounds.Schedule (GSem nD τ sig) (Fin 32) 𝕄 where
  duties g r := if r = 0 ∧ g.1.2 = .tc then dutiesOf g.1.1 (kindOf g.2) else ∅
  unitless _ := False
  amount g _ _ := amountOf (kindOf g.2)
  payload g _ d := pay m g.1.1 d (kindOf g.2)
  amount_pos g _ _ _ := amountOf_pos _

instance Rd_payload_storable (g : GSem nD τ sig) (r : ℕ) (d : Fin 32) :
    BI.Storable (upEmb : UEmb _ 𝕄) ((Rd (F := F) m).payload g r d) := by
  show BI.Storable upEmb (pay m g.1.1 d (kindOf g.2))
  unfold pay
  split
  · unfold barPay; infer_instance
  · unfold dmaPay; split <;> infer_instance
  · infer_instance

section Sched
variable (c : Dev nD)

theorem duties_cell (k : CIx) : (Rd m).duties (cellAt c k) 0 = dutiesOf c (some k) := by
  show (if (0 : ℕ) = 0 ∧ (cellAt c k).1.2 = .tc then dutiesOf c (kindOf (csem k)) else ∅) = _
  rw [if_pos ⟨rfl, rfl⟩, kindOf_csem]
theorem duties_bar : (Rd m).duties (barCell c) 0 = Finset.univ.erase c := duties_cell m c none
theorem duties_dma (a : Fin 4) {s : Fin 32} (h : s ≠ c) : (Rd m).duties (dmaCell a c s) 0 = {s} :=
  (duties_cell m c (some (a, s))).trans (if_neg h)
theorem duties_later (g : GSem nD τ sig) : ∀ r, 1 ≤ r → (Rd m).duties g r = ∅ :=
  fun r hr => if_neg fun h => by omega
theorem duties_own (a : Fin 4) : ∀ r, 0 ≤ r → (Rd m).duties (dmaCell a c c) r = ∅ := fun r _ => by
  rcases r with _ | r
  · exact (duties_cell m c (some (a, c))).trans (if_pos rfl)
  · exact duties_later m _ _ (Nat.succ_le_succ (Nat.zero_le r))

theorem amount_cell (k : CIx) (r d) : (Rd m).amount (cellAt c k) r d = amountOf (some k) := by
  show amountOf (kindOf (csem k)) = _
  rw [kindOf_csem]
theorem amount_bar (r d) : (Rd m).amount (barCell c) r d = 1 := amount_cell m c none r d
theorem amount_dma (a s r d) : (Rd m).amount (dmaCell a c s) r d = N := amount_cell m c (some (a, s)) r d

theorem payload_bar (r d) : (Rd m).payload (barCell c) r d = barPay c d := by
  show pay m c d (kindOf (csem none)) = _
  rw [kindOf_csem]; rfl
theorem payload_dma (a s r d) : (Rd m).payload (dmaCell a c s) r d = dmaPay m a c s := by
  show pay m c d (kindOf (csem (some (a, s)))) = _
  rw [kindOf_csem]; rfl

theorem expect_bar : (Rd m).expect (barCell c) 0 = 31 := by
  unfold Schedule.expect Schedule.amountOf
  rw [duties_bar, Finset.sum_congr rfl fun d _ => amount_bar m c 0 d, Finset.sum_const, Finset.card_erase_of_mem (Finset.mem_univ c),
    Finset.card_univ, Fintype.card_fin, smul_eq_mul]
  rfl
theorem expect_dma (a : Fin 4) {s : Fin 32} (h : s ≠ c) : (Rd m).expect (dmaCell a c s) 0 = N := by
  unfold Schedule.expect Schedule.amountOf
  rw [duties_dma m c a h, Finset.sum_singleton, amount_dma]

theorem mem_bar {d : Dev nD} (h : d ≠ c) : d ∈ (Rd m).duties (barCell c) 0 := by
  rw [duties_bar]; exact Finset.mem_erase.mpr ⟨h, Finset.mem_univ _⟩
theorem mem_dma (a : Fin 4) {s : Fin 32} (h : s ≠ c) : s ∈ (Rd m).duties (dmaCell a c s) 0 := by
  rw [duties_dma m c a h]; exact Finset.mem_singleton_self _

/-- What the barrier's wait brings: each peer's slots. -/
theorem rest_bar : bigSep ((Rd m).duties (barCell c) 0 \ ∅) (fun d => (Rd m).payload (barCell c) 0 d)
    = (bigSep Finset.univ fun r : Fin 31 => barPay c (peer c r) : sProp 𝕄) := by
  rw [Finset.sdiff_empty, duties_bar, bigSep_congr fun d _ => payload_bar m c 0 d]
  exact bigSep_erase_peers c _
/-- What a DMA wait brings. -/
theorem rest_dma (a : Fin 4) {s : Fin 32} (h : s ≠ c) :
    bigSep ((Rd m).duties (dmaCell a c s) 0 \ ∅) (fun d => (Rd m).payload (dmaCell a c s) 0 d) = dmaPay m a c s := by
  rw [Finset.sdiff_empty, duties_dma m c a h, bigSep_singleton, payload_dma]

end Sched

/-! ## What a device owes, and the levels -/

/-- The payments device `c` makes to its peer `r`: one barrier unit, a credit in each exchange. -/
def debtB (c : Dev nD) (r : Fin 31) : CellTallies nD τ sig Unit := tallyAt (barCell (peer c r)) () 1
def debt1 (c : Dev nD) (r : Fin 31) : CellTallies nD τ sig Unit := tallyAt (dmaCell 1 (peer c r) c) () N
def debt2 (c : Dev nD) (r : Fin 31) : CellTallies nD τ sig Unit := tallyAt (dmaCell 3 (peer c r) c) () N

/-- What device `c` still owes when it has paid `nb` barrier units, `n1` and `n2` transfers. -/
def owed (c : Dev nD) (nb n1 n2 : ℕ) : CellTallies nD τ sig Unit :=
  owing (debtB c) nb + (owing (debt1 c) n1 + owing (debt2 c) n2)

theorem owed_payB (c : Dev nD) (r : Fin 31) (n1 n2 : ℕ) :
    owed c r.val n1 n2 = owed c (r.val + 1) n1 n2 + tallyAt (barCell (peer c r)) () 1 := by
  unfold owed
  rw [owing_step (debtB c) r, add_right_comm]
  rfl
theorem owed_pay1 (c : Dev nD) (r : Fin 31) (nb n2 : ℕ) :
    owed c nb r.val n2 = owed c nb (r.val + 1) n2 + tallyAt (dmaCell 1 (peer c r) c) () N := by
  unfold owed
  rw [owing_step (debt1 c) r, add_right_comm (owing (debt1 c) (r.val + 1)), ← add_assoc]
  rfl
theorem owed_pay2 (c : Dev nD) (r : Fin 31) (nb n1 : ℕ) :
    owed c nb n1 r.val = owed c nb n1 (r.val + 1) + tallyAt (dmaCell 3 (peer c r) c) () N := by
  unfold owed
  rw [owing_step (debt2 c) r, ← add_assoc, ← add_assoc]
  rw [add_assoc (owing (debtB c) nb)]
  rfl
theorem owed_none (c : Dev nD) : owed c 31 31 31 = 0 := by
  unfold owed
  rw [owing_all, owing_all, owing_all, add_zero, add_zero]

def L (g : GSem nD τ sig) : Finset Unit := if g.1.2 = .tc then {()} else ∅

/-- Barrier cells at 1, receive cells at 2 and 3, the others (staging, send) at 0. -/
def lvOf : Option CIx → ℕ
  | some none => 1
  | some (some (1, _)) => 2
  | some (some (3, _)) => 3
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl

theorem kind_bar : kindOf (.reg barS) = some none := kindOf_csem none
theorem kind_dma (a : Fin 4) (s : Fin 32) : kindOf (.dma (dsem a s)) = some (some (a, s)) := kindOf_csem (some (a, s))

theorem lv_cell (c : Dev nD) (k : CIx) : lv (cellAt c k) () = lvOf (some k) := by
  show lvOf (kindOf (csem k)) = _
  rw [kindOf_csem]
theorem lv_bar (c : Dev nD) : lv (barCell c) () = 1 := lv_cell c none
theorem lv_dma (a : Fin 4) (c : Dev nD) (s : Fin 32) : lv (dmaCell a c s) () = lvOf (some (some (a, s))) := lv_cell c (some (a, s))

/-- A debt left is one of its payments. -/
theorem owing_pos {t : Fin 31 → CellTallies nD τ sig Unit} {n : ℕ} {g : GSem nD τ sig} {u : Unit} (h : 0 < owing t n g u) :
    ∃ r : Fin 31, n ≤ r.val ∧ 0 < t r g u := by
  by_contra hn
  have hz : owing t n g u = 0 := by
    unfold owing
    rw [Finset.sum_apply, Finsupp.finset_sum_apply]
    refine Finset.sum_eq_zero fun r _ => ?_
    by_cases hr : r.val < n
    · rw [if_pos hr]; rfl
    · rw [if_neg hr]
      by_contra h0
      exact hn ⟨r, Nat.not_lt.mp hr, Nat.pos_of_ne_zero h0⟩
  rw [hz] at h
  exact Nat.lt_irrefl 0 h

theorem tallyAt_pos {g g' : GSem nD τ sig} {u : Unit} {k : ℕ} (h : 0 < (tallyAt g' () k : CellTallies nD τ sig Unit) g u) : g = g' := by
  rw [tallyAt_apply] at h
  by_contra hn
  rw [if_neg fun h' => hn h'.1] at h
  exact Nat.lt_irrefl 0 h

/-- What is owed is owed to a peer's barrier, first or second receive cell. -/
theorem owed_pos {c : Dev nD} {nb n1 n2 : ℕ} {g : GSem nD τ sig} {u : Unit} (h : 0 < owed c nb n1 n2 g u) :
    ∃ r : Fin 31, (nb ≤ r.val ∧ g = barCell (peer c r)) ∨ (n1 ≤ r.val ∧ g = dmaCell 1 (peer c r) c)
      ∨ (n2 ≤ r.val ∧ g = dmaCell 3 (peer c r) c) := by
  unfold owed at h
  rw [Pi.add_apply, Finsupp.add_apply, Pi.add_apply, Finsupp.add_apply] at h
  rcases Nat.add_pos_iff_pos_or_pos.mp h with h | h
  · obtain ⟨r, hr, h⟩ := owing_pos h
    exact ⟨r, .inl ⟨hr, tallyAt_pos h⟩⟩
  · rcases Nat.add_pos_iff_pos_or_pos.mp h with h | h
    · obtain ⟨r, hr, h⟩ := owing_pos h
      exact ⟨r, .inr (.inl ⟨hr, tallyAt_pos h⟩)⟩
    · obtain ⟨r, hr, h⟩ := owing_pos h
      exact ⟨r, .inr (.inr ⟨hr, tallyAt_pos h⟩)⟩

/-- The levels, as every device knows them. -/
def levs : sProp 𝕄 := levAts L lv
instance levs_persistent : Persistent (levs (F := F)) := by unfold levs; infer_instance

/-- A wait at level `b` is allowed when everything owed is above it. -/
theorem mayWait_below (c : Dev nD) (sm : SemLoc sig) (b nb n1 n2 : ℕ) (hs : lvOf (kindOf sm) ≤ b)
    (hB : nb = 31 ∨ b < 1) (h1 : n1 = 31 ∨ b < 2) (h2 : n2 = 31 ∨ b < 3) :
    (levs : sProp 𝕄) ⊢ MayWait (c : Thread nD τ) sm () (owed c nb n1 n2) := by
  unfold levs
  refine MayOwe.of_cut (L := L) (lev := lv) b (fun p hp => by rw [Finset.mem_singleton.mp hp, L_tc]; exact Finset.mem_singleton_self _)
    (fun g u hg => ?_) (fun p hp => by rw [Finset.mem_singleton.mp hp]; exact hs) (fun g u hg => ?_)
  · obtain ⟨r, ⟨-, rfl⟩ | ⟨-, rfl⟩ | ⟨-, rfl⟩⟩ := owed_pos hg <;> exact Finset.mem_singleton_self _
  · obtain ⟨r, ⟨hr, rfl⟩ | ⟨hr, rfl⟩ | ⟨hr, rfl⟩⟩ := owed_pos hg
    · rw [lv_bar]
      rcases hB with rfl | hB
      · exact absurd r.isLt (Nat.not_lt.mpr hr)
      · exact hB
    · rw [lv_dma]
      rcases h1 with rfl | h1
      · exact absurd r.isLt (Nat.not_lt.mpr hr)
      · exact h1
    · rw [lv_dma]
      rcases h2 with rfl | h2
      · exact absurd r.isLt (Nat.not_lt.mpr hr)
      · exact h2

end Cert.KernelIdeal.Mlp

end
-- ==== Proof.KernelIdeal.Steps.lean ====
/-
# One rule per communication step

A device runs in a state `Run K c nb n1 n2 S`: the mesh's cells with their invariants, what device `c`
still owes after `nb` signals and `n1`, `n2` transfers, and `S`, what it holds. Each theorem here runs
one operation at the head of a program: if the rest is correct from the state after, the program is
correct from the state before. A phase's state is `St A B n`: peers below `n` are done (`A`), the others
still to do (`B`).
-/
module

public import proofs.«01_k».proof.Proof.KernelIdeal.Schedule

@[expose] public section

set_option maxRecDepth 20000

noncomputable section

namespace Cert.KernelIdeal.Mlp

open Cert.KernelIdeal Cert.KernelIdeal.Gen Cert.Peers Cert.Geometry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The program `prog` on device `c` runs safely and ends in `Q`. -/
abbrev WP {α : Type} (c : Dev nD) (prog : Prog (TpuEff nD τ sig (Elt F) Λ₀ .tc) α) (Q : α → sProp 𝕄) : sProp 𝕄 :=
  wp frame (wpE (defs₀ (F := F)) 𝒱₀ (c : Thread nD τ) none) Set.univ prog Q

variable (m : (ℓ : Loc nD τ sig) → Buf (Elt F) ℓ) (K : Dev nD × CIx → ℕ)

/-! ## What every device knows -/

/-- Every cell's invariant, that every cell is at its round 0, and the levels. -/
def ctx : sProp 𝕄 :=
  iprop((bigSep Finset.univ fun p : Dev nD × CIx => cellInv ER (Rd m) (K p) (cellAt p.1 p.2))
    ∗ (bigSep Finset.univ fun p : Dev nD × CIx => reached ER (cellAt p.1 p.2) 0) ∗ (levs : sProp 𝕄))

instance ctx_persistent : Persistent (ctx m K) := by unfold ctx; infer_instance

/-- One of a family held. -/
theorem pick {ι : Type} [Fintype ι] [DecidableEq ι] (Φ : ι → sProp 𝕄) (i : ι) : (bigSep Finset.univ Φ : sProp 𝕄) ⊢ Φ i :=
  bigSep_elim (Finset.mem_univ i)

theorem ctx_inv (d : Dev nD) (k : CIx) : ctx m K ⊢ cellInv ER (Rd m) (K (d, k)) (cellAt d k) := by
  unfold ctx
  iintro ⟨H, -⟩
  iapply (pick (fun p : Dev nD × CIx => cellInv ER (Rd m) (K p) (cellAt p.1 p.2)) (d, k))
  iexact H
theorem ctx_reached (d : Dev nD) (k : CIx) : ctx m K ⊢ reached ER (cellAt d k) 0 := by
  unfold ctx
  iintro ⟨-, H, -⟩
  iapply (pick (fun p : Dev nD × CIx => (reached ER (cellAt p.1 p.2) 0 : sProp 𝕄)) (d, k))
  iexact H
theorem ctx_dma (a : Fin 4) (d : Dev nD) (s : Fin 32) :
    ctx m K ⊢ iprop(cellInv ER (Rd m) (K (d, some (a, s))) (dmaCell a d s) ∗ reached ER (dmaCell a d s) 0) := by
  iintro #H
  isplitr
  · iapply (ctx_inv m K d (some (a, s))); iexact H
  · iapply (ctx_reached m K d (some (a, s))); iexact H
theorem ctx_bar (d : Dev nD) :
    ctx m K ⊢ iprop(cellInv ER (Rd m) (K (d, none)) (barCell d) ∗ reached ER (barCell d) 0) := by
  iintro #H
  isplitr
  · iapply (ctx_inv m K d none); iexact H
  · iapply (ctx_reached m K d none); iexact H
theorem ctx_levels : ctx m K ⊢ (levs : sProp 𝕄) := by
  unfold ctx
  iintro ⟨-, -, H⟩
  iexact H

/-- The state of device `c`: `nb` peers signalled, `n1` and `n2` transfers made, `S` held. -/
def Run (c : Dev nD) (nb n1 n2 : ℕ) (S : sProp 𝕄) : sProp 𝕄 :=
  iprop(ctx m K ∗ (∃ W, owes (c : Thread nD τ) (owed c nb n1 n2) W) ∗ S)

/-- What is held may be rearranged. -/
theorem Run_mono {c : Dev nD} {nb n1 n2 : ℕ} {S S' : sProp 𝕄} (h : S ⊢ S') : Run m K c nb n1 n2 S ⊢ Run m K c nb n1 n2 S' := by
  unfold Run
  iintro ⟨HC, HO, HS⟩
  isplitl [HC]; · iexact HC
  isplitl [HO]; · iexact HO
  iapply h; iexact HS

/-- Peer number `n`. -/
abbrev ix (n : ℕ) (h : n < 31 := by decide) : Fin 31 := ⟨n, h⟩

/-- Device `c + j` is peer `j - 1`. -/
theorem dev_peer {c : Dev nD} (r : Fin 31) {x : ℕ} {hx : x < nD} (h : x = (c.val + (r.val + 1)) % 32) : (⟨x, hx⟩ : Dev nD) = peer c r :=
  Fin.ext (h.trans (by rw [peer_val, add_assoc]))

/-! ## The barrier -/

/-- For the signal to peer `r`: the duty there, and the slots handed over. -/
def sigB (c : Dev nD) (r : Fin 31) : sProp 𝕄 :=
  iprop(dutyTok ER (barCell (peer c r)) 0 c ∗ (∃ f, cSlot c (peer c r) f) ∗ ∃ f, gSlot c (peer c r) f)

/-- The signal to peer `r`. -/
theorem step_signal {α : Type} {Q : α → sProp 𝕄} {k : PUnit → Prog (TpuEff nD τ sig (Elt F) Λ₀ .tc) α} {c p : Dev nD} {n1 n2 : ℕ} {R : sProp 𝕄}
    (r : Fin 31) (hp : p = peer c r) {j : ℕ} (hj : j = 1)
    (h : Run m K c (r.val + 1) n1 n2 iprop(St (fun _ => iprop(emp)) (sigB c) (r.val + 1) ∗ R) ⊢ WP c (k ⟨⟩) Q) :
    Run m K c r.val n1 n2 iprop(St (fun _ => iprop(emp)) (sigB c) r.val ∗ R)
      ⊢ WP c (.op (.semSignal (p : Thread nD τ) barS j) k) Q := by
  subst hp hj
  unfold Run
  iintro ⟨#Hctx, ⟨%W, HO⟩, HSt, HR⟩
  ihave HSt' := (St_step (fun _ => iprop(emp)) (sigB (F := F) c) r) $$ HSt
  icases HSt' with ⟨HB, Hback⟩
  unfold sigB
  icases HB with ⟨Htok, HC, HG⟩
  ihave #HIr := (ctx_bar m K (peer c r)) $$ Hctx
  icases HIr with ⟨#HI, #Hr⟩
  iapply (Rounds.wp_signal 𝒱₀ ER (Rd m) (c : Thread nD τ) none (dst := ((peer c r : Dev nD) : Thread nD τ)) (κ := K (peer c r, none))
      (d := c) (r := 0) (mem_bar m (peer c r) (peer_ne c r).symm)
      (amount_bar m (peer c r) 0 c) () (owed c (r.val + 1) n1 n2) (owed_payB c r n1 n2)) $$ [HO Htok HC HG]
  · isplitr; · iexact HI
    isplitl [HO]; · iexact HO
    isplitl [Htok]; · iexact Htok
    isplitl [HC HG]
    · rw [payload_bar]; unfold barPay
      isplitl [HC]; · iexact HC
      iexact HG
    iexact Hr
  iintro HO
  iapply h
  unfold Run
  isplitr; · iexact Hctx
  isplitl [HO]; · iexists W; iexact HO
  isplitl [Hback]
  · iapply Hback; iempintro
  iexact HR

/-- For the wait on the own barrier: its credit and its position. -/
def barB (c : Dev nD) : sProp 𝕄 := iprop(cred (tallyAt (barCell c) () 31) ∗ atPos ER (barCell c) 0 ∅ 0)
/-- After it: each peer's slots, to be written. -/
def barA (c : Dev nD) : sProp 𝕄 :=
  iprop(atPos ER (barCell c) 1 ∅ 0 ∗ bigSep Finset.univ fun r : Fin 31 => barPay c (peer c r))

/-- The wait on the own barrier. -/
theorem step_barrier {α : Type} {Q : α → sProp 𝕄} {k : PUnit → Prog (TpuEff nD τ sig (Elt F) Λ₀ .tc) α} {c : Dev nD} {R : sProp 𝕄} {j : ℕ} (hj : j = 31)
    (h : Run m K c 31 0 0 iprop(barA c ∗ R) ⊢ WP c (k ⟨⟩) Q) :
    Run m K c 31 0 0 iprop(barB c ∗ R) ⊢ WP c (.op (.semWait barS j) k) Q := by
  subst hj
  unfold Run barB
  iintro ⟨#Hctx, ⟨%W, HO⟩, ⟨Hc, Hat⟩, HR⟩
  ihave #HIr := (ctx_bar m K c) $$ Hctx
  icases HIr with ⟨#HI, -⟩
  ihave #Hlev := (ctx_levels m K) $$ Hctx
  iapply (Rounds.wp_wait_rest_token 𝒱₀ ER (Rd m) (c : Thread nD τ) none (κ := K (c, none))
      (wpE_semWait_eq 𝒱₀ (c : Thread nD τ) none Set.univ) (Set.mem_univ _) () (O := owed c 31 0 0) (W := W) (R := 0) (m := 0) (T := ∅)
      ((Nat.zero_add 31).trans (expect_bar m c).symm)) $$ [Hc HO Hat]
  · isplitr; · iexact HI
    isplitl [Hc]; · iexact Hc
    isplitl [HO]; · iexact HO
    isplitr
    · iapply (mayWait_below c (.reg barS) 1 31 0 0 (by rw [kind_bar]; exact Nat.le_refl 1)
        (.inl rfl) (.inr (by decide)) (.inr (by decide)))
      iexact Hlev
    iexact Hat
  iintro ⟨HO, Hat, -, Hpay⟩
  ihave Hp := (Entails.of_eq (rest_bar m c)) $$ Hpay
  iapply h
  unfold Run barA
  isplitr; · iexact Hctx
  isplitl [HO]; · iexists _; iexact HO
  isplitl [Hat Hp]
  · isplitl [Hat]; · iexact Hat
    iexact Hp
  iexact HR

/-! ## Waits on a transfer -/

/-- For the wait on the cell of array `a` for peer `r`: its credit and its position. -/
def waitB (a : Fin 4) (c : Dev nD) (r : Fin 31) : sProp 𝕄 :=
  iprop(cred (tallyAt (dmaCell a c (peer c r)) () N) ∗ atPos ER (dmaCell a c (peer c r)) 0 ∅ 0)
/-- After it: what the transfer hands over. -/
def waitA (a : Fin 4) (c : Dev nD) (r : Fin 31) : sProp 𝕄 :=
  iprop(atPos ER (dmaCell a c (peer c r)) 1 ∅ 0 ∗ dmaPay m a c (peer c r))

/-- The wait on the cell of array `a` for peer `r`, all payments of the phases before it made. -/
theorem step_wait {α : Type} {Q : α → sProp 𝕄} {k : PUnit → Prog (TpuEff nD τ sig (Elt F) Λ₀ .tc) α} {c : Dev nD} {n2 : ℕ} {R : sProp 𝕄}
    (a : Fin 4) (r : Fin 31) (hn : n2 = 31 ∨ lvOf (some (some (a, peer c r))) ≤ 2)
    {q : DmaSem sig} (hq : q = dsem a (peer c r))
    {sp sp' : Space} {s s' : Shape} {e e' : EltTy} {src : Memref sig .tc sp' s' e'} {dst : Memref sig .tc sp s e}
    {hsrc : src.view.WordExact} {hdst : dst.view.WordExact} (hN : dst.view.dmaCredit = N)
    (h : Run m K c 31 31 n2 iprop(St (waitA m a c) (waitB a c) (r.val + 1) ∗ R) ⊢ WP c (k ⟨⟩) Q) :
    Run m K c 31 31 n2 iprop(St (waitA m a c) (waitB a c) r.val ∗ R) ⊢ WP c (.op (.waitDma2 q src dst hsrc hdst) k) Q := by
  subst hq
  unfold Run
  iintro ⟨#Hctx, ⟨%W, HO⟩, HSt, HR⟩
  ihave HSt' := (St_step (waitA m a c) (waitB a c) r) $$ HSt
  icases HSt' with ⟨HB, Hback⟩
  have hB : waitB a c r ⊢ (iprop(cred (tallyAt (dmaCell a c (peer c r)) () dst.view.dmaCredit)
      ∗ atPos ER (dmaCell a c (peer c r)) 0 ∅ 0) : sProp 𝕄) := by
    rw [hN]; exact .rfl
  ihave HB := hB $$ HB
  icases HB with ⟨Hc, Hat⟩
  ihave #HIr := (ctx_dma m K a c (peer c r)) $$ Hctx
  icases HIr with ⟨#HI, -⟩
  ihave #Hlev := (ctx_levels m K) $$ Hctx
  iapply (Rounds.wp_wait_rest_token 𝒱₀ ER (Rd m) (c : Thread nD τ) none (κ := K (c, some (a, peer c r)))
      (wpE_waitDma2_eq 𝒱₀ (c : Thread nD τ) none Set.univ) (Set.mem_univ _) () (O := owed c 31 31 n2) (W := W) (R := 0) (m := 0) (T := ∅)
      (by rw [hN, Nat.zero_add]; exact (expect_dma m c a (peer_ne c r)).symm)) $$ [Hc HO Hat]
  · isplitr; · iexact HI
    isplitl [Hc]; · iexact Hc
    isplitl [HO]; · iexact HO
    isplitr
    · rcases hn with rfl | hn
      · rw [owed_none, MayWait_zero]; iempintro
      · iapply (mayWait_below c (.dma (dsem a (peer c r))) 2 31 31 n2
          (by rw [kind_dma]; exact hn)
          (.inl rfl) (.inl rfl) (.inr (by decide)))
        iexact Hlev
    iexact Hat
  iintro ⟨HO, Hat, -, Hpay⟩
  ihave Hp := (Entails.of_eq (rest_dma m c a (peer_ne c r))) $$ Hpay
  iapply h
  unfold Run
  isplitr; · iexact Hctx
  isplitl [HO]; · iexists _; iexact HO
  isplitl [Hback Hat Hp]
  · iapply Hback
    unfold waitA
    isplitl [Hat]; · iexact Hat
    iexact Hp
  iexact HR

/-! ## Transfers -/

/-- For the first transfer to peer `r`: the duties of its two cells, the slot sent, the slot to be written. -/
def send1B (c : Dev nD) (r : Fin 31) : sProp 𝕄 :=
  iprop(dutyTok ER (dmaCell 0 c (peer c r)) 0 (peer c r) ∗ dutyTok ER (dmaCell 1 (peer c r) c) 0 c
    ∗ pSlot c (peer c r) (partB m c) ∗ ∃ f, cSlot (peer c r) c f)
/-- After it: the credit to wait for it. -/
def send1A (c : Dev nD) (r : Fin 31) : sProp 𝕄 := cred (tallyAt (dmaCell 0 c (peer c r)) () N)

/-- The first transfer to peer `r`: slot `r`'s partial products into the peer's slot `c`. -/
theorem step_send1 {α : Type} {Q : α → sProp 𝕄} {k : PUnit → Prog (TpuEff nD τ sig (Elt F) Λ₀ .tc) α} {c p : Dev nD} {n2 : ℕ} {R : sProp 𝕄}
    (r : Fin 31) (hp : p = peer c r) {q₁ q₂ : DmaSem sig} (h₁ : q₁ = dsem 0 (peer c r)) (h₂ : q₂ = dsem 1 c)
    {off off' : Fin 3 → ℕ} (ho : off = ![(peer c r).val, 0, 0]) (ho' : off' = ![c.val, 0, 0]) {inb inb'}
    {hsc : (slotM cM off' inb').view.ref.isScScratch = false}
    {hsrc : (slotM pM off inb).view.WordExact} {hdst : (slotM cM off' inb').view.WordExact}
    {hsem : DmaTarget.Typed .vmem (.dma q₂) (.remote (Dev.tc p : Thread nD τ) (slotM cM off' inb') (.dma q₁) hsc)}
    (h : Run m K c 31 (r.val + 1) n2 iprop(St (send1A c) (send1B m c) (r.val + 1) ∗ R) ⊢ WP c (k ⟨⟩) Q) :
    Run m K c 31 r.val n2 iprop(St (send1A c) (send1B m c) r.val ∗ R)
      ⊢ WP c (.op (.enqueueDma (slotM pM off inb) (.remote (Dev.tc p : Thread nD τ) (slotM cM off' inb') (.dma q₁) hsc) (.dma q₂) hsrc hdst hsem) k) Q := by
  subst hp h₁ h₂
  unfold Run
  iintro ⟨#Hctx, ⟨%W, HO⟩, HSt, HR⟩
  ihave HSt' := (St_step (send1A (F := F) c) (send1B m c) r) $$ HSt
  icases HSt' with ⟨HB, Hback⟩
  have hB : send1B m c r ⊢ (iprop(dutyTok ER (dmaCell 0 c (peer c r)) 0 (peer c r) ∗ dutyTok ER (dmaCell 1 (peer c r) c) 0 c
      ∗ (pLoc c ↦[slot (peer c r)]{fullShare} partB m c) ∗ ∃ f, (cLoc (peer c r) ↦[slot c]{fullShare} f)) : sProp 𝕄) := .rfl
  ihave HB := hB $$ HB
  icases HB with ⟨Ht₁, Ht₂, HP, ⟨%f, HC⟩⟩
  ihave #H₁ := (ctx_dma m K 0 c (peer c r)) $$ Hctx
  icases H₁ with ⟨#HI₁, #Hr₁⟩
  ihave #H₂ := (ctx_dma m K 1 (peer c r) c) $$ Hctx
  icases H₂ with ⟨#HI₂, #Hr₂⟩
  have hset : (slotM pM off inb).view.set = slot (peer c r) := (slotView_set pM ho inb _ _).trans Finset.map_refl
  have hset' : (slotM cM off' inb').view.set = slot c := (slotView_set cM ho' inb' _ _).trans Finset.map_refl
  ihave HP := (Entails.of_eq (show (pLoc c ↦[slot (peer c r)]{fullShare} partB m c : sProp 𝕄)
    = ((slotM pM off inb).view.loc (c : Thread nD τ) ↦[(slotM pM off inb).view.set]{fullShare} partB m c) by rw [hset])) $$ HP
  ihave HC := (Entails.of_eq (show (cLoc (peer c r) ↦[slot c]{fullShare} f : sProp 𝕄)
    = ((slotM cM off' inb').view.loc ((peer c r : Dev nD) : Thread nD τ) ↦[(slotM cM off' inb').view.set]{fullShare} f) by rw [hset'])) $$ HC
  have hp₁ : ((slotM pM off inb).view.loc (c : Thread nD τ) ↦[(slotM pM off inb).view.set]{fullShare} partB m c : sProp 𝕄)
      ⊢ (Rd m).payload (dmaCell 0 c (peer c r)) 0 (peer c r) := by
    rw [payload_dma]
    show _ ⊢ pSlot c (peer c r) (partB m c); unfold pSlot; rw [hset]
  have hp₂ : ((slotM cM off' inb').view.loc ((peer c r : Dev nD) : Thread nD τ) ↦[(slotM cM off' inb').view.set]{fullShare}
        ((slotM cM off' inb').view.write (Elt F) f ((slotM pM off inb).view.read (Elt F) (partB m c)) Finset.univ) : sProp 𝕄)
      ⊢ (Rd m).payload (dmaCell 1 (peer c r) c) 0 c := by
    rw [payload_dma]
    show _ ⊢ cSlot (peer c r) c (commB m (peer c r)); unfold cSlot; rw [hset']
    refine Entails.of_eq (pointsTo_congr fun i hi => ?_)
    refine (land_eq pM cM ho ho' inb inb' _ _ _ _ (partB m c) f i (mem_slot.mp hi)).trans ?_
    show partB m c _ = partB m (i 0 : Fin 32) _
    rw [mem_slot.mp hi]
    rfl
  have key := Rounds.wp_send_pointsTo (Q := Q) (k := k) (hsrc := hsrc) (hdst := hdst) (hsem := hsem) (Es := Set.univ) (Γ := [])
    (defs := defs₀ (F := F)) 𝒱₀ ER (Rd m) (c : Thread nD τ) none (κ₁ := K (c, some (0, peer c r))) (κ₂ := K (peer c r, some (1, c)))
    (r₁ := 0) (r₂ := 0) (d₁ := peer c r) (d₂ := c) (fd := f) (mem_dma m c 0 (peer_ne c r)) (mem_dma m (peer c r) 1 (peer_ne c r).symm)
    () () N (credit_c off' inb') (amount_dma m c 0 (peer c r) 0 _) (amount_dma m (peer c r) 1 c 0 _) (owed c 31 (r.val + 1) n2) (owed_pay1 c r 31 n2) (W := W)
    hp₁ hp₂
  iapply key $$ [HP HC HO Ht₁ Ht₂]
  · isplitr; · iexact HI₁
    isplitr; · iexact HI₂
    isplitl [HP]; · iexact HP
    isplitl [HC]; · iexact HC
    isplitl [HO]; · iexact HO
    isplitl [Ht₁]; · iexact Ht₁
    isplitr; · iexact Hr₁
    isplitl [Ht₂]; · iexact Ht₂
    iexact Hr₂
  iintro ⟨Hc, HO⟩
  iapply h
  unfold Run
  isplitr; · iexact Hctx
  isplitl [HO]; · iexists W; iexact HO
  isplitl [Hback Hc]
  · iapply Hback; unfold send1A; iexact Hc
  iexact HR

/-- For the second transfer to peer `r`: the duties of its two cells, a read share of the own reduced
    chunk, the slot to be written. -/
def send2B (c : Dev nD) (r : Fin 31) : sProp 𝕄 :=
  iprop(dutyTok ER (dmaCell 2 c (peer c r)) 0 (peer c r) ∗ dutyTok ER (dmaCell 3 (peer c r) c) 0 c
    ∗ gSlotQ (tok r) c c (gathB m) ∗ ∃ f, gSlot (peer c r) c f)
/-- After it: the credit to wait for it. -/
def send2A (c : Dev nD) (r : Fin 31) : sProp 𝕄 := cred (tallyAt (dmaCell 2 c (peer c r)) () N)

/-- The second transfer to peer `r`: the own reduced chunk into the peer's slot `c`. -/
theorem step_send2 {α : Type} {Q : α → sProp 𝕄} {k : PUnit → Prog (TpuEff nD τ sig (Elt F) Λ₀ .tc) α} {c p : Dev nD} {R : sProp 𝕄}
    (r : Fin 31) (hp : p = peer c r) {q₁ q₂ : DmaSem sig} (h₁ : q₁ = dsem 2 (peer c r)) (h₂ : q₂ = dsem 3 c)
    {off off' : Fin 3 → ℕ} (ho : off = ![c.val, 0, 0]) (ho' : off' = ![c.val, 0, 0]) {inb inb'}
    {hsc : (slotM gM off' inb').view.ref.isScScratch = false}
    {hsrc : (slotM gM off inb).view.WordExact} {hdst : (slotM gM off' inb').view.WordExact}
    {hsem : DmaTarget.Typed .vmem (.dma q₂) (.remote (Dev.tc p : Thread nD τ) (slotM gM off' inb') (.dma q₁) hsc)}
    (h : Run m K c 31 31 (r.val + 1) iprop(St (send2A c) (send2B m c) (r.val + 1) ∗ R) ⊢ WP c (k ⟨⟩) Q) :
    Run m K c 31 31 r.val iprop(St (send2A c) (send2B m c) r.val ∗ R)
      ⊢ WP c (.op (.enqueueDma (slotM gM off inb) (.remote (Dev.tc p : Thread nD τ) (slotM gM off' inb') (.dma q₁) hsc) (.dma q₂) hsrc hdst hsem) k) Q := by
  subst hp h₁ h₂
  unfold Run
  iintro ⟨#Hctx, ⟨%W, HO⟩, HSt, HR⟩
  ihave HSt' := (St_step (send2A (F := F) c) (send2B m c) r) $$ HSt
  icases HSt' with ⟨HB, Hback⟩
  have hB : send2B m c r ⊢ (iprop(dutyTok ER (dmaCell 2 c (peer c r)) 0 (peer c r) ∗ dutyTok ER (dmaCell 3 (peer c r) c) 0 c
      ∗ (gLoc c ↦[slot c]{tok r} gathB m) ∗ ∃ f, (gLoc (peer c r) ↦[slot c]{fullShare} f)) : sProp 𝕄) := .rfl
  ihave HB := hB $$ HB
  icases HB with ⟨Ht₁, Ht₂, HP, ⟨%f, HC⟩⟩
  ihave #H₁ := (ctx_dma m K 2 c (peer c r)) $$ Hctx
  icases H₁ with ⟨#HI₁, #Hr₁⟩
  ihave #H₂ := (ctx_dma m K 3 (peer c r) c) $$ Hctx
  icases H₂ with ⟨#HI₂, #Hr₂⟩
  have hset : (slotM gM off inb).view.set = slot c := (slotView_set gM ho inb _ _).trans Finset.map_refl
  have hset' : (slotM gM off' inb').view.set = slot c := (slotView_set gM ho' inb' _ _).trans Finset.map_refl
  ihave HP := (Entails.of_eq (show (gLoc c ↦[slot c]{tok r} gathB m : sProp 𝕄)
    = ((slotM gM off inb).view.loc (c : Thread nD τ) ↦[(slotM gM off inb).view.set]{tok r} gathB m) by rw [hset])) $$ HP
  ihave HC := (Entails.of_eq (show (gLoc (peer c r) ↦[slot c]{fullShare} f : sProp 𝕄)
    = ((slotM gM off' inb').view.loc ((peer c r : Dev nD) : Thread nD τ) ↦[(slotM gM off' inb').view.set]{fullShare} f) by rw [hset'])) $$ HC
  have hp₁ : ((slotM gM off inb).view.loc (c : Thread nD τ) ↦[(slotM gM off inb).view.set]{tok r} gathB m : sProp 𝕄)
      ⊢ (Rd m).payload (dmaCell 2 c (peer c r)) 0 (peer c r) := by
    rw [payload_dma]
    show _ ⊢ gSlotQ (tok (pos c (peer c r))) c c (gathB m); unfold gSlotQ; rw [hset, pos_peer]
  have hp₂ : ((slotM gM off' inb').view.loc ((peer c r : Dev nD) : Thread nD τ) ↦[(slotM gM off' inb').view.set]{fullShare}
        ((slotM gM off' inb').view.write (Elt F) f ((slotM gM off inb).view.read (Elt F) (gathB m)) Finset.univ) : sProp 𝕄)
      ⊢ (Rd m).payload (dmaCell 3 (peer c r) c) 0 c := by
    rw [payload_dma]
    show _ ⊢ gSlotQ fullShare (peer c r) c (gathB m); unfold gSlotQ; rw [hset']
    refine Entails.of_eq (pointsTo_congr fun i hi => ?_)
    refine (land_eq gM gM ho ho' inb inb' _ _ _ _ (gathB m) f i (mem_slot.mp hi)).trans ?_
    show gathB m _ = gathB m i
    rw [← mem_slot.mp hi]
    exact congrArg (gathB m) (eq_ix3 i).symm
  have key := Rounds.wp_send_pointsTo (Q := Q) (k := k) (hsrc := hsrc) (hdst := hdst) (hsem := hsem) (Es := Set.univ) (Γ := [])
    (defs := defs₀ (F := F)) 𝒱₀ ER (Rd m) (c : Thread nD τ) none (κ₁ := K (c, some (2, peer c r))) (κ₂ := K (peer c r, some (3, c)))
    (r₁ := 0) (r₂ := 0) (d₁ := peer c r) (d₂ := c) (fd := f) (mem_dma m c 2 (peer_ne c r)) (mem_dma m (peer c r) 3 (peer_ne c r).symm)
    () () N (credit_g off' inb') (amount_dma m c 2 (peer c r) 0 _) (amount_dma m (peer c r) 3 c 0 _) (owed c 31 31 (r.val + 1)) (owed_pay2 c r 31 31) (W := W)
    hp₁ hp₂
  iapply key $$ [HP HC HO Ht₁ Ht₂]
  · isplitr; · iexact HI₁
    isplitr; · iexact HI₂
    isplitl [HP]; · iexact HP
    isplitl [HC]; · iexact HC
    isplitl [HO]; · iexact HO
    isplitl [Ht₁]; · iexact Ht₁
    isplitr; · iexact Hr₁
    isplitl [Ht₂]; · iexact Ht₂
    iexact Hr₂
  iintro ⟨Hc, HO⟩
  iapply h
  unfold Run
  isplitr; · iexact Hctx
  isplitl [HO]; · iexists W; iexact HO
  isplitl [Hback Hc]
  · iapply Hback; unfold send2A; iexact Hc
  iexact HR

end Cert.KernelIdeal.Mlp

end
-- ==== Proof.KernelIdeal.Local.lean ====
/-
# One rule per load and store

In the states of `Steps.lean`. `PSt n`: the first `n` slots of the partial products are stored. `own`: the
device's own slot of the partial products and of the received chunks. `OSt n`: the first `n` row blocks of
the result are stored. `GAll`: every slot of the reduced chunks, to be read.
-/
module

public import proofs.«01_k».proof.Proof.KernelIdeal.Steps

@[expose] public section

set_option maxRecDepth 20000

noncomputable section

namespace Cert.KernelIdeal.Mlp

open Cert.KernelIdeal Cert.KernelIdeal.Gen Cert.Peers Cert.Geometry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-! ## Any load, any store -/

/-- A load that reads `v` from what `S` holds. -/
theorem run_load {c : Dev nD} {nb n1 n2 : ℕ} {S : sProp 𝕄} {α : Type} {Q : α → sProp 𝕄}
    {cs : CoreSpace} {s : Shape} {e : EltTy} {mr : Memref sig .tc cs s e} {r : LoadRect s} {hl : mr.view.LoadsAt r}
    {k : (r.shape.Idx → Elt F e) → Prog (TpuEff nD τ sig (Elt F) Λ₀ .tc) α}
    {I : Finset (Idx (mr.view.loc (c : Thread nD τ)))} {q : PosShare TreeShare} (P : (r.shape.Idx → Elt F e) → Prop)
    (hI : mr.view.setOn r.set ⊆ I)
    (hS : S ⊢ iprop(∃ f, ⌜P (mr.view.readAt (Elt F) r f)⌝ ∗ (mr.view.loc (c : Thread nD τ) ↦[I]{q} f)
      ∗ ((mr.view.loc (c : Thread nD τ) ↦[I]{q} f) -∗ S)))
    (h : ∀ v, P v → (Run m K c nb n1 n2 S ⊢ WP c (k v) Q)) :
    Run m K c nb n1 n2 S ⊢ WP c (.op (.load mr r hl) k) Q := by
  unfold Run
  iintro ⟨#Hctx, HO, HS⟩
  ihave HS' := hS $$ HS
  icases HS' with ⟨%f, %hf, Hp, Hback⟩
  iapply (wp_load 𝒱₀ (c : Thread nD τ) none Set.univ (m := mr) hI) $$ Hp
  iintro Hp
  iapply (h _ hf)
  unfold Run
  isplitr; · iexact Hctx
  isplitl [HO]; · iexact HO
  iapply Hback; iexact Hp

/-- A store that makes `S'` of `S`. -/
theorem run_store {c : Dev nD} {nb n1 n2 : ℕ} {S S' : sProp 𝕄} {α : Type} {Q : α → sProp 𝕄}
    {cs : CoreSpace} {s : Shape} {e : EltTy} {mr : Memref sig .tc cs s e} {r : Rect s} {w : r.shape.Idx → Elt F e}
    {hx : (mr.access r).Stores Finset.univ} {hm : (Finset.univ : Finset r.shape.Idx) = Finset.univ ∨ ∀ a, r.stride a = 1}
    {k : PUnit → Prog (TpuEff nD τ sig (Elt F) Λ₀ .tc) α}
    {I : Finset (Idx ((mr.access r).loc (c : Thread nD τ)))} (hI : (mr.access r).setOn Finset.univ ⊆ I)
    (hS : S ⊢ iprop(∃ f, ((mr.access r).loc (c : Thread nD τ) ↦[I]{fullShare} f)
      ∗ (((mr.access r).loc (c : Thread nD τ) ↦[I]{fullShare} ((mr.access r).write (Elt F) f w Finset.univ)) -∗ S')))
    (h : Run m K c nb n1 n2 S' ⊢ WP c (k ⟨⟩) Q) :
    Run m K c nb n1 n2 S ⊢ WP c (.op (.store mr r w Finset.univ hx hm) k) Q := by
  unfold Run at h ⊢
  iintro ⟨#Hctx, HO, HS⟩
  ihave HS' := hS $$ HS
  icases HS' with ⟨%f, Hp, Hback⟩
  iapply (wp_store 𝒱₀ (c : Thread nD τ) none Set.univ (m := mr) (r := r) (Mk := Finset.univ) hI) $$ Hp
  iintro Hp
  iapply h
  isplitr; · iexact Hctx
  isplitl [HO]; · iexact HO
  iapply Hback; iexact Hp

/-! ## What a store leaves in a whole buffer -/

section
variable {n : Fin 32} {off : Fin 3 → ℕ} (ho : off = ![n.val, 0, 0])
  (inb : ∀ a, off a + S1x24x768.size a ≤ S32x24x768.size a) (w : S1x24x768.Idx → Elt F .bf16) (i : S32x24x768.Idx)

include ho

theorem inP (f : pM.view.ty.Contents (Elt F)) (hi : (i 0 : Fin 32) = n) :
    ((pM.access (Rect.unit (s := S32x24x768) off S1x24x768.size inb)).write (Elt F) f w Finset.univ) i
      = w (ix3 (0 : Fin 1) (i 1 : Fin 24) (i 2 : Fin 768)) := by
  have h := store_slot_in pM ho inb f w i hi
  rw [View.read_whole] at h
  exact h
theorem outP (f : pM.view.ty.Contents (Elt F)) (hi : (i 0 : Fin 32) ≠ n) :
    ((pM.access (Rect.unit (s := S32x24x768) off S1x24x768.size inb)).write (Elt F) f w Finset.univ) i = f i := by
  have h := store_slot_out pM ho inb f w i hi
  rw [View.read_whole, View.read_whole] at h
  exact h
theorem inC (f : cM.view.ty.Contents (Elt F)) (hi : (i 0 : Fin 32) = n) :
    ((cM.access (Rect.unit (s := S32x24x768) off S1x24x768.size inb)).write (Elt F) f w Finset.univ) i
      = w (ix3 (0 : Fin 1) (i 1 : Fin 24) (i 2 : Fin 768)) := by
  have h := store_slot_in cM ho inb f w i hi
  rw [View.read_whole] at h
  exact h
theorem inG (f : gM.view.ty.Contents (Elt F)) (hi : (i 0 : Fin 32) = n) :
    ((gM.access (Rect.unit (s := S32x24x768) off S1x24x768.size inb)).write (Elt F) f w Finset.univ) i
      = w (ix3 (0 : Fin 1) (i 1 : Fin 24) (i 2 : Fin 768)) := by
  have h := store_slot_in gM ho inb f w i hi
  rw [View.read_whole] at h
  exact h
end

theorem inO {k : ℕ} {off : Fin 2 → ℕ} (ho : off = ![24 * k, 0]) (inb : ∀ a, off a + S24x768.size a ≤ S768x768.size a)
    (w : S24x768.Idx → Elt F .f32) (i : S768x768.Idx) (f : oM.view.ty.Contents (Elt F)) (x : S24x768.Idx)
    (h0 : (i 0).val = 24 * k + (x 0).val) (h1 : (i 1).val = (x 1).val) :
    ((oM.access (Rect.unit (s := S768x768) off S24x768.size inb)).write (Elt F) f w Finset.univ) i = w x := by
  have h := store_rows_in oM ho inb f w i x h0 h1
  rw [View.read_whole] at h
  exact h
theorem outO {k : ℕ} {off : Fin 2 → ℕ} (ho : off = ![24 * k, 0]) (inb : ∀ a, off a + S24x768.size a ≤ S768x768.size a)
    (w : S24x768.Idx → Elt F .f32) (i : S768x768.Idx) (f : oM.view.ty.Contents (Elt F)) (hi : (i 0).val < 24 * k) :
    ((oM.access (Rect.unit (s := S768x768) off S24x768.size inb)).write (Elt F) f w Finset.univ) i = f i := by
  have h := store_rows_out oM ho inb f w i (.inl hi)
  rw [View.read_whole, View.read_whole] at h
  exact h

variable {c : Dev nD} {nb n1 n2 : ℕ}

/-! ## The staged operands -/

def xPts (c : Dev nD) : sProp 𝕄 := ((c : Thread nD τ).loc cc0_stg0_0) ↦{fullShare} xstg m c
def wgPts (c : Dev nD) : sProp 𝕄 := ((c : Thread nD τ).loc cc0_stg1_0) ↦{fullShare} wgstg m c
def wuPts (c : Dev nD) : sProp 𝕄 := ((c : Thread nD τ).loc cc0_stg2_0) ↦{fullShare} wustg m c
def wdPts (c : Dev nD) : sProp 𝕄 := ((c : Thread nD τ).loc cc0_stg3_0) ↦{fullShare} wdstg m c

/-- The device's operands, staged. -/
def ins (c : Dev nD) : sProp 𝕄 := iprop(xPts m c ∗ wgPts m c ∗ wuPts m c ∗ wdPts m c)

theorem zero2 : (![0, 0] : Fin 2 → ℕ) = fun _ => 0 := funext fun a => by fin_cases a <;> rfl
theorem zero3 : (![0, 0, 0] : Fin 3 → ℕ) = fun _ => 0 := funext fun a => by fin_cases a <;> rfl

theorem step_load_x {R : sProp 𝕄} {α : Type} {Q : α → sProp 𝕄} {inb hl} {k : (S768x768.Idx → Elt F .bf16) → Prog (TpuEff nD τ sig (Elt F) Λ₀ .tc) α}
    (h : Run m K c nb n1 n2 iprop(ins m c ∗ R) ⊢ WP c (k (xstg m c)) Q) :
    Run m K c nb n1 n2 iprop(ins m c ∗ R)
      ⊢ WP c (.op (.load xM (Rect.unit (s := S768x768) ![0, 0] S768x768.size inb).toLoadRect hl) k) Q := by
  refine run_load m K (I := Finset.univ) (q := fullShare) (fun v => v = xstg m c) (Finset.subset_univ _) ?_ (fun v hv => by rw [hv]; exact h)
  unfold ins xPts
  iintro ⟨⟨Hx, Hr⟩, HR⟩
  iexists (xstg m c)
  isplitr; · ipureintro; exact Memref.readAt_unit_zero (Elt F) cc0_stg0_0 zero2 _ _
  isplitl [Hx]; · iexact Hx
  iintro Hx
  isplitr [HR]
  · isplitl [Hx]; · iexact Hx
    iexact Hr
  iexact HR
theorem step_load_wg {R : sProp 𝕄} {α : Type} {Q : α → sProp 𝕄} {inb hl} {k : (S768x1536.Idx → Elt F .bf16) → Prog (TpuEff nD τ sig (Elt F) Λ₀ .tc) α}
    (h : Run m K c nb n1 n2 iprop(ins m c ∗ R) ⊢ WP c (k (wgstg m c)) Q) :
    Run m K c nb n1 n2 iprop(ins m c ∗ R)
      ⊢ WP c (.op (.load wgM (Rect.unit (s := S768x1536) ![0, 0] S768x1536.size inb).toLoadRect hl) k) Q := by
  refine run_load m K (I := Finset.univ) (q := fullShare) (fun v => v = wgstg m c) (Finset.subset_univ _) ?_ (fun v hv => by rw [hv]; exact h)
  unfold ins wgPts
  iintro ⟨⟨H1, Hx, Hr⟩, HR⟩
  iexists (wgstg m c)
  isplitr; · ipureintro; exact Memref.readAt_unit_zero (Elt F) cc0_stg1_0 zero2 _ _
  isplitl [Hx]; · iexact Hx
  iintro Hx
  isplitr [HR]
  · isplitl [H1]; · iexact H1
    isplitl [Hx]; · iexact Hx
    iexact Hr
  iexact HR
theorem step_load_wu {R : sProp 𝕄} {α : Type} {Q : α → sProp 𝕄} {inb hl} {k : (S768x1536.Idx → Elt F .bf16) → Prog (TpuEff nD τ sig (Elt F) Λ₀ .tc) α}
    (h : Run m K c nb n1 n2 iprop(ins m c ∗ R) ⊢ WP c (k (wustg m c)) Q) :
    Run m K c nb n1 n2 iprop(ins m c ∗ R)
      ⊢ WP c (.op (.load wuM (Rect.unit (s := S768x1536) ![0, 0] S768x1536.size inb).toLoadRect hl) k) Q := by
  refine run_load m K (I := Finset.univ) (q := fullShare) (fun v => v = wustg m c) (Finset.subset_univ _) ?_ (fun v hv => by rw [hv]; exact h)
  unfold ins wuPts
  iintro ⟨⟨H1, H2, Hx, Hr⟩, HR⟩
  iexists (wustg m c)
  isplitr; · ipureintro; exact Memref.readAt_unit_zero (Elt F) cc0_stg2_0 zero2 _ _
  isplitl [Hx]; · iexact Hx
  iintro Hx
  isplitr [HR]
  · isplitl [H1]; · iexact H1
    isplitl [H2]; · iexact H2
    isplitl [Hx]; · iexact Hx
    iexact Hr
  iexact HR
theorem step_load_wd {R : sProp 𝕄} {α : Type} {Q : α → sProp 𝕄} {inb hl} {k : (S1536x768.Idx → Elt F .bf16) → Prog (TpuEff nD τ sig (Elt F) Λ₀ .tc) α}
    (h : Run m K c nb n1 n2 iprop(ins m c ∗ R) ⊢ WP c (k (wdstg m c)) Q) :
    Run m K c nb n1 n2 iprop(ins m c ∗ R)
      ⊢ WP c (.op (.load wdM (Rect.unit (s := S1536x768) ![0, 0] S1536x768.size inb).toLoadRect hl) k) Q := by
  refine run_load m K (I := Finset.univ) (q := fullShare) (fun v => v = wdstg m c) (Finset.subset_univ _) ?_ (fun v hv => by rw [hv]; exact h)
  unfold ins wdPts
  iintro ⟨⟨H1, H2, H3, Hx⟩, HR⟩
  iexists (wdstg m c)
  isplitr; · ipureintro; exact Memref.readAt_unit_zero (Elt F) cc0_stg3_0 zero2 _ _
  isplitl [Hx]; · iexact Hx
  iintro Hx
  isplitr [HR]
  · isplitl [H1]; · iexact H1
    isplitl [H2]; · iexact H2
    isplitl [H3]; · iexact H3
    iexact Hx
  iexact HR

/-! ## The partial products -/

/-- The first `n` slots of the partial products are stored. -/
def PSt (c : Dev nD) (n : ℕ) : sProp 𝕄 :=
  iprop(∃ f : Buf (Elt F) (pLoc c), ⌜∀ i : S32x24x768.Idx, (i 0).val < n → f i = partB m c i⌝ ∗ (pLoc c ↦{fullShare} f))

/-- A load whose value the program does not use. -/
theorem step_load_P {R : sProp 𝕄} {α : Type} {Q : α → sProp 𝕄} {n : ℕ} {r : LoadRect S32x24x768} {hl}
    {k : (r.shape.Idx → Elt F .bf16) → Prog (TpuEff nD τ sig (Elt F) Λ₀ .tc) α}
    (h : ∀ v, Run m K c nb n1 n2 iprop(PSt m c n ∗ R) ⊢ WP c (k v) Q) :
    Run m K c nb n1 n2 iprop(PSt m c n ∗ R) ⊢ WP c (.op (.load pM r hl) k) Q := by
  refine run_load m K (I := Finset.univ) (q := fullShare) (fun v => True) (Finset.subset_univ _) ?_ (fun v _ => h v)
  unfold PSt
  iintro ⟨⟨%f, %hf, Hp⟩, HR⟩
  iexists f
  isplitr; · ipureintro; trivial
  isplitl [Hp]; · iexact Hp
  iintro Hp
  isplitr [HR]
  · iexists f; isplitr; · ipureintro; exact hf
    iexact Hp
  iexact HR

/-- Slot `n` of the partial products is stored. -/
theorem step_store_P {R : sProp 𝕄} {α : Type} {Q : α → sProp 𝕄} (n : Fin 32) {off : Fin 3 → ℕ} (ho : off = ![n.val, 0, 0]) {inb hx hm}
    {w : S1x24x768.Idx → Elt F .bf16} (hw : ∀ (a : Fin 24) (b : Fin 768), w (ix3 (0 : Fin 1) a b) = prod m c (ix2 (row n a) b))
    {k : PUnit → Prog (TpuEff nD τ sig (Elt F) Λ₀ .tc) α}
    (h : Run m K c nb n1 n2 iprop(PSt m c (n.val + 1) ∗ R) ⊢ WP c (k ⟨⟩) Q) :
    Run m K c nb n1 n2 iprop(PSt m c n.val ∗ R)
      ⊢ WP c (.op (.store pM (Rect.unit (s := S32x24x768) off S1x24x768.size inb) w Finset.univ hx hm) k) Q := by
  refine run_store m K (I := Finset.univ) (Finset.subset_univ _) ?_ h
  unfold PSt
  iintro ⟨⟨%f, %hf, Hp⟩, HR⟩
  iexists f
  isplitl [Hp]; · iexact Hp
  iintro Hp
  isplitr [HR]
  · iexists ((pM.access (Rect.unit (s := S32x24x768) off S1x24x768.size inb)).write (Elt F) f w Finset.univ)
    isplitr
    · ipureintro
      intro i hi
      by_cases hn : (i 0 : Fin 32) = n
      · refine (inP ho inb w i f hn).trans ?_
        refine (hw (i 1 : Fin 24) (i 2 : Fin 768)).trans ?_
        unfold partB
        rw [hn]
      · refine (outP ho inb w i f hn).trans (hf i ?_)
        have : (i 0).val ≠ n.val := fun he => hn (Fin.ext he)
        omega
    iexact Hp
  iexact HR

/-- What slot `n` is stored is rows `24 n` to `24 n + 23` of the product. -/
theorem part_pay (n : Fin 32) {o : ℕ} (ho : o = 24 * n.val) (x : S768x768.Idx → Elt F .bf16) (hs : S768x768.Slices ![o, 0] S24x768)
    (hc : S24x768.ShapeCasts S1x24x768) (a : Fin 24) (b : Fin 768) :
    shapeCast S1x24x768 (extractStridedSlice S24x768 ![o, 0] x hs) hc (ix3 (0 : Fin 1) a b) = x (ix2 (row n a) b) := by
  subst ho
  exact (cast_T1 _ hc a b).trans (rows_at x hs a b _ rfl)

/-! ## The own slot -/

/-- Slot `c` of device `c`'s partial products as a load reads it. -/
def ownP (c : Dev nD) : S1x24x768.Idx → Elt F .bf16 := fun j => partB m c (ix3 c (j 1 : Fin 24) (j 2 : Fin 768))

/-- The own slot of the partial products, and of the received chunks at any contents; -/
def own (c : Dev nD) : sProp 𝕄 := iprop(pSlot c c (partB m c) ∗ ∃ f, cSlot c c f)
/-- and with the one stored in the other. -/
def owned (c : Dev nD) : sProp 𝕄 := iprop(pSlot c c (partB m c) ∗ cSlot c c (commB m c))

theorem access_slot {b : Memref sig .tc .vmem S32x24x768 .bf16} {s : Fin 32} {off : Fin 3 → ℕ} (ho : off = ![s.val, 0, 0]) (inb) :
    (b.access (Rect.unit (s := S32x24x768) off S1x24x768.size inb)).setOn Finset.univ = (slot s).map b.view.emb :=
  slotAccess_set b ho inb

theorem load_access {b : Memref sig .tc .vmem S32x24x768 .bf16} {s : Fin 32} {off : Fin 3 → ℕ} (ho : off = ![s.val, 0, 0]) (inb) :
    b.view.setOn (Rect.unit (s := S32x24x768) off S1x24x768.size inb).toLoadRect.set = (slot s).map b.view.emb := by
  rw [← slotAccess_set b ho inb]
  exact (View.set_slice _ _).symm

theorem step_load_own {R : sProp 𝕄} {α : Type} {Q : α → sProp 𝕄} {off : Fin 3 → ℕ} (ho : off = ![c.val, 0, 0]) {inb hl}
    {k : (S1x24x768.Idx → Elt F .bf16) → Prog (TpuEff nD τ sig (Elt F) Λ₀ .tc) α}
    (h : Run m K c nb n1 n2 iprop(own m c ∗ R) ⊢ WP c (k (ownP m c)) Q) :
    Run m K c nb n1 n2 iprop(own m c ∗ R)
      ⊢ WP c (.op (.load pM (Rect.unit (s := S32x24x768) off S1x24x768.size inb).toLoadRect hl) k) Q := by
  refine run_load m K (I := slot c) (q := fullShare) (fun v => v = ownP m c)
    (by rw [load_access ho inb]; exact Finset.subset_of_eq Finset.map_refl) ?_ (fun v hv => by rw [hv]; exact h)
  unfold own pSlot
  iintro ⟨⟨Hp, Hc⟩, HR⟩
  iexists (partB m c)
  isplitr; · ipureintro; exact funext fun j => load_slot pM ho inb (partB m c) j
  isplitl [Hp]; · iexact Hp
  iintro Hp
  isplitr [HR]
  · isplitl [Hp]; · iexact Hp
    iexact Hc
  iexact HR

theorem step_load_ownC {R : sProp 𝕄} {α : Type} {Q : α → sProp 𝕄} {off : Fin 3 → ℕ} (ho : off = ![c.val, 0, 0]) {inb hl}
    {k : (S1x24x768.Idx → Elt F .bf16) → Prog (TpuEff nD τ sig (Elt F) Λ₀ .tc) α}
    (h : ∀ v, Run m K c nb n1 n2 iprop(own m c ∗ R) ⊢ WP c (k v) Q) :
    Run m K c nb n1 n2 iprop(own m c ∗ R)
      ⊢ WP c (.op (.load cM (Rect.unit (s := S32x24x768) off S1x24x768.size inb).toLoadRect hl) k) Q := by
  refine run_load m K (I := slot c) (q := fullShare) (fun v => True)
    (by rw [load_access ho inb]; exact Finset.subset_of_eq Finset.map_refl) ?_ (fun v _ => h v)
  unfold own cSlot
  iintro ⟨⟨Hp, ⟨%f, Hc⟩⟩, HR⟩
  iexists f
  isplitr; · ipureintro; trivial
  isplitl [Hc]; · iexact Hc
  iintro Hc
  isplitr [HR]
  · isplitl [Hp]; · iexact Hp
    iexists f; iexact Hc
  iexact HR

theorem step_store_ownC {R : sProp 𝕄} {α : Type} {Q : α → sProp 𝕄} {off : Fin 3 → ℕ} (ho : off = ![c.val, 0, 0]) {inb hx hm}
    {w : S1x24x768.Idx → Elt F .bf16} (hw : w = ownP m c) {k : PUnit → Prog (TpuEff nD τ sig (Elt F) Λ₀ .tc) α}
    (h : Run m K c nb n1 n2 iprop(owned m c ∗ R) ⊢ WP c (k ⟨⟩) Q) :
    Run m K c nb n1 n2 iprop(own m c ∗ R)
      ⊢ WP c (.op (.store cM (Rect.unit (s := S32x24x768) off S1x24x768.size inb) w Finset.univ hx hm) k) Q := by
  subst hw
  refine run_store m K (I := slot c) (by rw [access_slot ho inb]; exact Finset.subset_of_eq Finset.map_refl) ?_ h
  unfold own owned cSlot
  iintro ⟨⟨Hp, ⟨%f, Hc⟩⟩, HR⟩
  iexists f
  isplitl [Hc]; · iexact Hc
  iintro Hc
  have hcg : ((cLoc c ↦[slot c]{fullShare} ((cM.access (Rect.unit (s := S32x24x768) off S1x24x768.size inb)).write (Elt F) f (ownP m c) Finset.univ)) : sProp 𝕄)
      = (cLoc c ↦[slot c]{fullShare} commB m c) := pointsTo_congr fun i hi => by
    refine (inC ho inb (ownP m c) i f (mem_slot.mp hi)).trans ?_
    unfold commB
    rw [mem_slot.mp hi]
    rfl
  ihave Hc := (Entails.of_eq hcg) $$ Hc
  isplitr [HR]
  · isplitl [Hp]; · iexact Hp
    iexact Hc
  iexact HR

/-! ## The reduced chunk -/

/-- The received chunks, complete. -/
def CAll (c : Dev nD) : sProp 𝕄 := cLoc c ↦{fullShare} commB m c

theorem step_load_C {R : sProp 𝕄} {α : Type} {Q : α → sProp 𝕄} {inb hl} {k : (S32x24x768.Idx → Elt F .bf16) → Prog (TpuEff nD τ sig (Elt F) Λ₀ .tc) α}
    (h : Run m K c nb n1 n2 iprop(CAll m c ∗ R) ⊢ WP c (k (commB m c)) Q) :
    Run m K c nb n1 n2 iprop(CAll m c ∗ R)
      ⊢ WP c (.op (.load cM (Rect.unit (s := S32x24x768) ![0, 0, 0] S32x24x768.size inb).toLoadRect hl) k) Q := by
  refine run_load m K (I := Finset.univ) (q := fullShare) (fun v => v = commB m c) (Finset.subset_univ _) ?_ (fun v hv => by rw [hv]; exact h)
  unfold CAll
  iintro ⟨Hx, HR⟩
  iexists (commB m c)
  isplitr; · ipureintro; exact Memref.readAt_unit_zero (Elt F) cc0_scratch1 zero3 _ _
  isplitl [Hx]; · iexact Hx
  iintro Hx
  isplitl [Hx]; · iexact Hx
  iexact HR

/-- The own slot of the reduced chunks, at any contents. -/
def ownG (c : Dev nD) : sProp 𝕄 := iprop(∃ f, gSlot c c f)

theorem step_load_ownG {R : sProp 𝕄} {α : Type} {Q : α → sProp 𝕄} {off : Fin 3 → ℕ} (ho : off = ![c.val, 0, 0]) {inb hl}
    {k : (S1x24x768.Idx → Elt F .bf16) → Prog (TpuEff nD τ sig (Elt F) Λ₀ .tc) α}
    (h : ∀ v, Run m K c nb n1 n2 iprop(ownG (F := F) c ∗ R) ⊢ WP c (k v) Q) :
    Run m K c nb n1 n2 iprop(ownG (F := F) c ∗ R)
      ⊢ WP c (.op (.load gM (Rect.unit (s := S32x24x768) off S1x24x768.size inb).toLoadRect hl) k) Q := by
  refine run_load m K (I := slot c) (q := fullShare) (fun v => True)
    (by rw [load_access ho inb]; exact Finset.subset_of_eq Finset.map_refl) ?_ (fun v _ => h v)
  unfold ownG gSlot gSlotQ
  iintro ⟨⟨%f, Hc⟩, HR⟩
  iexists f
  isplitr; · ipureintro; trivial
  isplitl [Hc]; · iexact Hc
  iintro Hc
  isplitr [HR]
  · iexists f; iexact Hc
  iexact HR

theorem step_store_ownG {R : sProp 𝕄} {α : Type} {Q : α → sProp 𝕄} {off : Fin 3 → ℕ} (ho : off = ![c.val, 0, 0]) {inb hx hm}
    {k : PUnit → Prog (TpuEff nD τ sig (Elt F) Λ₀ .tc) α}
    (h : Run m K c nb n1 n2 iprop(gSlot c c (gathB m) ∗ R) ⊢ WP c (k ⟨⟩) Q) :
    Run m K c nb n1 n2 iprop(ownG (F := F) c ∗ R)
      ⊢ WP c (.op (.store gM (Rect.unit (s := S32x24x768) off S1x24x768.size inb) (k0_pay40 (commB m c)) Finset.univ hx hm) k) Q := by
  refine run_store m K (I := slot c) (by rw [access_slot ho inb]; exact Finset.subset_of_eq Finset.map_refl) ?_ h
  unfold ownG gSlot gSlotQ
  iintro ⟨⟨%f, Hc⟩, HR⟩
  iexists f
  isplitl [Hc]; · iexact Hc
  iintro Hc
  have hcg : ((gLoc c ↦[slot c]{fullShare} ((gM.access (Rect.unit (s := S32x24x768) off S1x24x768.size inb)).write (Elt F) f (k0_pay40 (commB m c)) Finset.univ)) : sProp 𝕄)
      = (gLoc c ↦[slot c]{fullShare} gathB m) := pointsTo_congr fun i hi => by
    refine (inG ho inb (k0_pay40 (commB m c)) i f (mem_slot.mp hi)).trans ?_
    unfold gathB redB
    rw [mem_slot.mp hi]
  ihave Hc := (Entails.of_eq hcg) $$ Hc
  isplitr [HR]
  · iexact Hc
  iexact HR

/-! ## The result -/

/-- Every slot of the reduced chunks, to be read. -/
def GAll (c : Dev nD) : sProp 𝕄 := gLoc c ↦{rest} gathB m

/-- The first `n` row blocks of the result are stored. -/
def OSt (c : Dev nD) (n : ℕ) : sProp 𝕄 :=
  iprop(∃ f : Buf (Elt F) (oLoc c), ⌜∀ i : S768x768.Idx, (i 0).val < 24 * n → f i = outB m i⌝ ∗ (oLoc c ↦{fullShare} f))

theorem step_load_G {R : sProp 𝕄} {α : Type} {Q : α → sProp 𝕄} (n : Fin 32) {off : Fin 3 → ℕ} (ho : off = ![n.val, 0, 0]) {inb hl}
    {k : (S1x24x768.Idx → Elt F .bf16) → Prog (TpuEff nD τ sig (Elt F) Λ₀ .tc) α}
    (h : Run m K c nb n1 n2 iprop(GAll m c ∗ R) ⊢ WP c (k (gathSlot m n)) Q) :
    Run m K c nb n1 n2 iprop(GAll m c ∗ R)
      ⊢ WP c (.op (.load gM (Rect.unit (s := S32x24x768) off S1x24x768.size inb).toLoadRect hl) k) Q := by
  refine run_load m K (I := Finset.univ) (q := rest) (fun v => v = gathSlot m n) (Finset.subset_univ _) ?_ (fun v hv => by rw [hv]; exact h)
  unfold GAll
  iintro ⟨Hx, HR⟩
  iexists (gathB m)
  isplitr; · ipureintro; exact funext fun j => load_slot gM ho inb (gathB m) j
  isplitl [Hx]; · iexact Hx
  iintro Hx
  isplitl [Hx]; · iexact Hx
  iexact HR

theorem step_load_O {R : sProp 𝕄} {α : Type} {Q : α → sProp 𝕄} {n : ℕ} {r : LoadRect S768x768} {hl}
    {k : (r.shape.Idx → Elt F .f32) → Prog (TpuEff nD τ sig (Elt F) Λ₀ .tc) α}
    (h : ∀ v, Run m K c nb n1 n2 iprop(GAll m c ∗ OSt m c n ∗ R) ⊢ WP c (k v) Q) :
    Run m K c nb n1 n2 iprop(GAll m c ∗ OSt m c n ∗ R) ⊢ WP c (.op (.load oM r hl) k) Q := by
  refine run_load m K (I := Finset.univ) (q := fullShare) (fun v => True) (Finset.subset_univ _) ?_ (fun v _ => h v)
  unfold OSt
  iintro ⟨HG, ⟨%f, %hf, Hp⟩, HR⟩
  iexists f
  isplitr; · ipureintro; trivial
  isplitl [Hp]; · iexact Hp
  iintro Hp
  isplitl [HG]; · iexact HG
  isplitr [HR]
  · iexists f; isplitr; · ipureintro; exact hf
    iexact Hp
  iexact HR

/-- Row block `n` of the result is stored. -/
theorem step_store_O {R : sProp 𝕄} {α : Type} {Q : α → sProp 𝕄} (n : Fin 32) {off : Fin 2 → ℕ} (ho : off = ![24 * n.val, 0]) {inb hx hm}
    {w : S24x768.Idx → Elt F .f32} (hw : w = k0_pay41 (gathSlot m n)) {k : PUnit → Prog (TpuEff nD τ sig (Elt F) Λ₀ .tc) α}
    (h : Run m K c nb n1 n2 iprop(GAll m c ∗ OSt m c (n.val + 1) ∗ R) ⊢ WP c (k ⟨⟩) Q) :
    Run m K c nb n1 n2 iprop(GAll m c ∗ OSt m c n.val ∗ R)
      ⊢ WP c (.op (.store oM (Rect.unit (s := S768x768) off S24x768.size inb) w Finset.univ hx hm) k) Q := by
  subst hw
  refine run_store m K (I := Finset.univ) (Finset.subset_univ _) ?_ h
  unfold OSt
  iintro ⟨HG, ⟨%f, %hf, Hp⟩, HR⟩
  iexists f
  isplitl [Hp]; · iexact Hp
  iintro Hp
  isplitl [HG]; · iexact HG
  isplitr [HR]
  · iexists ((oM.access (Rect.unit (s := S768x768) off S24x768.size inb)).write (Elt F) f (k0_pay41 (gathSlot m n)) Finset.univ)
    isplitr
    · ipureintro
      intro i hi
      by_cases hn : (i 0).val < 24 * n.val
      · exact (outO ho inb _ i f hn).trans (hf i hn)
      · have hq : (i 0).val / 24 = n.val := by omega
        have hr : (i 0).val % 24 < 24 := Nat.mod_lt _ (by decide)
        refine (inO ho inb (k0_pay41 (gathSlot m n)) i f (ix2 (⟨(i 0).val % 24, hr⟩ : Fin 24) (i 1 : Fin 768)) ?_ rfl).trans ?_
        · show (i 0).val = 24 * n.val + (i 0).val % 24
          omega
        · unfold outB
          have he : (⟨(i 0).val / 24, by have : (i 0).val < 768 := (i 0).isLt; omega⟩ : Fin 32) = n := Fin.ext hq
          rw [he]
    iexact Hp
  iexact HR

end Cert.KernelIdeal.Mlp

end
-- ==== Proof.KernelIdeal.Phases.lean ====
/-
# From one phase to the next

Named families of what a device holds beside the buffers (`toks1`, `atAll`, …), and how the state at the
end of a phase is the state at the start of the next: a buffer is split into its slots or put together
from them, a slot into read shares, credits and positions into waits.
-/
module

public import proofs.«01_k».proof.Proof.KernelIdeal.Local

@[expose] public section

set_option maxRecDepth 20000

noncomputable section

namespace Cert.KernelIdeal.Mlp

open Cert.KernelIdeal Cert.KernelIdeal.Gen Cert.Peers Cert.Geometry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the peers -/

/-- The duties of the first exchange's transfers, -/
def toks1 (c : Dev nD) : sProp 𝕄 := bigSep Finset.univ fun r : Fin 31 =>
  iprop(dutyTok ER (dmaCell 0 c (peer c r)) 0 (peer c r) ∗ dutyTok ER (dmaCell 1 (peer c r) c) 0 c)
/-- and of the second's. -/
def toks2 (c : Dev nD) : sProp 𝕄 := bigSep Finset.univ fun r : Fin 31 =>
  iprop(dutyTok ER (dmaCell 2 c (peer c r)) 0 (peer c r) ∗ dutyTok ER (dmaCell 3 (peer c r) c) 0 c)
/-- The duties of the barrier signals. -/
def toksB (c : Dev nD) : sProp 𝕄 := bigSep Finset.univ fun r : Fin 31 => dutyTok ER (barCell (peer c r)) 0 c
/-- The own cells of array `a` for the peers, at round `n`. -/
def atAll (a : Fin 4) (c : Dev nD) (n : ℕ) : sProp 𝕄 := bigSep Finset.univ fun r : Fin 31 => atPos ER (dmaCell a c (peer c r)) n ∅ 0
/-- The credit to wait on each of them. -/
def credAll (a : Fin 4) (c : Dev nD) : sProp 𝕄 := bigSep Finset.univ fun r : Fin 31 => cred (tallyAt (dmaCell a c (peer c r)) () N)
/-- Slot `c` of every peer's buffer of received chunks, at any contents; -/
def peersC (c : Dev nD) : sProp 𝕄 := bigSep Finset.univ fun r : Fin 31 => iprop(∃ f, cSlot (peer c r) c f)
/-- and of every peer's buffer of reduced chunks. -/
def peersG (c : Dev nD) : sProp 𝕄 := bigSep Finset.univ fun r : Fin 31 => iprop(∃ f, gSlot (peer c r) c f)
/-- The barrier's cell, waited for. -/
def barPos (c : Dev nD) : sProp 𝕄 := atPos ER (barCell c) 1 ∅ 0
/-- What is left of the own reduced chunk while it is sent. -/
def restG (c : Dev nD) : sProp 𝕄 := gSlotQ rest c c (gathB m)
/-- The shares of the other slots that the reads do without. -/
def toksG (c : Dev nD) : sProp 𝕄 := bigSep Finset.univ fun r : Fin 31 => bigSep Finset.univ fun i : Fin 31 => gSlotQ (tok i) c (peer c r) (gathB m)

/-! ## The walks -/

/-- The first `n` barrier signals are sent. -/
def sigSt (c : Dev nD) (n : ℕ) : sProp 𝕄 := St (fun _ => iprop(emp)) (sigB c) n
/-- The first `n` transfers of the first exchange are issued; -/
def send1St (c : Dev nD) (n : ℕ) : sProp 𝕄 := St (send1A c) (send1B m c) n
/-- of the second. -/
def send2St (c : Dev nD) (n : ℕ) : sProp 𝕄 := St (send2A c) (send2B m c) n
/-- The first `n` cells of array `a` are waited for. -/
def waitSt (a : Fin 4) (c : Dev nD) (n : ℕ) : sProp 𝕄 := St (waitA m a c) (waitB a c) n

theorem wait_start (a : Fin 4) (c : Dev nD) : iprop(credAll a c ∗ atAll a c 0) ⊢ waitSt m a c 0 := by
  unfold waitSt
  rw [St_zero]
  exact Entails.of_eq (bigSep_sep' _ _ _).symm

theorem wait_done (a : Fin 4) (c : Dev nD) :
    waitSt m a c 31 ⊢ iprop(atAll a c 1 ∗ bigSep Finset.univ fun r : Fin 31 => dmaPay m a c (peer c r)) := by
  unfold waitSt
  rw [St_all]
  exact Entails.of_eq (bigSep_sep' _ _ _)

theorem send1_done (c : Dev nD) : send1St m c 31 ⊢ credAll 0 c := by
  unfold send1St
  rw [St_all]
  exact .rfl
theorem send2_done (c : Dev nD) : send2St m c 31 ⊢ credAll 2 c := by
  unfold send2St
  rw [St_all]
  exact .rfl

/-- The send semaphores' waits start from the credits the transfers gave. -/
theorem wait0_start (c : Dev nD) : iprop(send1St m c 31 ∗ atAll 0 c 0) ⊢ waitSt m 0 c 0 := by
  iintro ⟨H, HA⟩
  iapply (wait_start m 0 c)
  isplitl [H]
  · iapply (send1_done m c); iexact H
  iexact HA
theorem wait2_start (c : Dev nD) : iprop(send2St m c 31 ∗ atAll 2 c 0) ⊢ waitSt m 2 c 0 := by
  iintro ⟨H, HA⟩
  iapply (wait_start m 2 c)
  isplitl [H]
  · iapply (send2_done m c); iexact H
  iexact HA

/-! ## The buffers -/

/-- The partial products are their slots. -/
theorem p_slots (c : Dev nD) : (pLoc c ↦{fullShare} partB m c : sProp 𝕄)
    = iprop(pSlot c c (partB m c) ∗ bigSep Finset.univ fun r : Fin 31 => pSlot c (peer c r) (partB m c)) :=
  (Ring.pointsTo_blocks (ℓ := pLoc c) slot slot_disjoint slot_cover (partB m c)).trans
    (bigSep_peers c fun s => pSlot c s (partB m c))
/-- The received chunks are their slots. -/
theorem c_slots (c : Dev nD) : (cLoc c ↦{fullShare} commB m c : sProp 𝕄)
    = iprop(cSlot c c (commB m c) ∗ bigSep Finset.univ fun r : Fin 31 => cSlot c (peer c r) (commB m c)) :=
  (Ring.pointsTo_blocks (ℓ := cLoc c) slot slot_disjoint slot_cover (commB m c)).trans
    (bigSep_peers c fun s => cSlot c s (commB m c))
/-- The reduced chunks are their slots, at any share. -/
theorem g_slots (q : PosShare TreeShare) (c : Dev nD) : (gLoc c ↦{q} gathB m : sProp 𝕄)
    = iprop(gSlotQ q c c (gathB m) ∗ bigSep Finset.univ fun r : Fin 31 => gSlotQ q c (peer c r) (gathB m)) :=
  (Ring.pointsTo_blocks (ℓ := gLoc c) slot slot_disjoint slot_cover (gathB m)).trans
    (bigSep_peers c fun s => gSlotQ q c s (gathB m))

/-- A slot of the reduced chunks is what is left and the read shares. -/
theorem g_split (c s : Dev nD) :
    gSlot c s (gathB m) ⊢ iprop(gSlotQ rest c s (gathB m) ∗ bigSep Finset.univ fun i : Fin 31 => gSlotQ (tok i) c s (gathB m)) := by
  unfold gSlot gSlotQ
  exact Transfers.pointsTo_toks_split fullShare 31
theorem g_join (c s : Dev nD) :
    iprop(gSlotQ rest c s (gathB m) ∗ bigSep Finset.univ fun i : Fin 31 => gSlotQ (tok i) c s (gathB m)) ⊢ gSlot c s (gathB m) := by
  unfold gSlot gSlotQ
  exact Transfers.pointsTo_toks_join fullShare 31

/-! ## Phase by phase -/

theorem reassoc (A B C D : sProp 𝕄) : iprop((A ∗ B) ∗ C ∗ D) ⊢ iprop(A ∗ B ∗ C ∗ D) := by
  iintro ⟨⟨H1, H2⟩, H3, H4⟩
  isplitl [H1]; · iexact H1
  isplitl [H2]; · iexact H2
  isplitl [H3]; · iexact H3
  iexact H4

/-- The barrier passed and the partial products stored: the first exchange can start. -/
theorem send1_start (c : Dev nD) : iprop(PSt m c 32 ∗ barA c ∗ toks1 c)
    ⊢ iprop(send1St m c 0 ∗ pSlot c c (partB m c) ∗ barPos c ∗ peersG c) := by
  unfold send1St barA barPos
  rw [St_zero]
  iintro ⟨HP, ⟨Hat, Hbar⟩, Htok⟩
  have hP : PSt m c 32 ⊢ (pLoc c ↦{fullShare} partB m c : sProp 𝕄) := by
    unfold PSt
    iintro ⟨%f, %hf, Hp⟩
    have he : ((pLoc c ↦{fullShare} f) : sProp 𝕄) = (pLoc c ↦{fullShare} partB m c) :=
      pointsTo_congr fun i _ => hf i (by have : (i 0).val < 32 := (i 0).isLt; exact this)
    iapply (Entails.of_eq he); iexact Hp
  ihave HP := hP $$ HP
  ihave HP := (Entails.of_eq (p_slots m c)) $$ HP
  icases HP with ⟨Hown, HP⟩
  have hbar : (bigSep Finset.univ fun r : Fin 31 => barPay c (peer c r)) ⊢ (iprop(peersC c ∗ peersG c) : sProp 𝕄) :=
    Entails.of_eq (bigSep_sep' _ _ _)
  ihave Hbar := hbar $$ Hbar
  icases Hbar with ⟨HC, HG⟩
  have hjoin : iprop(toks1 c ∗ (bigSep Finset.univ fun r : Fin 31 => pSlot c (peer c r) (partB m c)) ∗ peersC c)
      ⊢ bigSep Finset.univ (send1B m c) := by
    unfold toks1 peersC
    rw [← bigSep_sep', ← bigSep_sep']
    refine bigSep_mono fun r _ => ?_
    exact reassoc _ _ _ _
  isplitl [Htok HP HC]
  · iapply hjoin
    isplitl [Htok]; · iexact Htok
    isplitl [HP]; · iexact HP
    iexact HC
  isplitl [Hown]; · iexact Hown
  isplitl [Hat]; · iexact Hat
  iexact HG

/-- Every chunk received: the buffer of received chunks is complete. -/
theorem c_whole (c : Dev nD) : iprop(waitSt m 1 c 31 ∗ cSlot c c (commB m c)) ⊢ iprop(CAll m c ∗ atAll 1 c 1) := by
  iintro ⟨H, HC⟩
  ihave H := (wait_done m 1 c) $$ H
  icases H with ⟨Hat, H⟩
  isplitr [Hat]
  · unfold CAll
    iapply (Entails.of_eq (c_slots m c).symm)
    isplitl [HC]; · iexact HC
    iexact H
  iexact Hat

/-- The chunk reduced: the second exchange can start. -/
theorem send2_start (c : Dev nD) : iprop(gSlot c c (gathB m) ∗ peersG c ∗ toks2 c) ⊢ iprop(send2St m c 0 ∗ restG m c) := by
  unfold send2St restG
  rw [St_zero]
  iintro ⟨HG, HP, Htok⟩
  ihave HG := (g_split m c c) $$ HG
  icases HG with ⟨Hrest, HG⟩
  have hjoin : iprop(toks2 c ∗ (bigSep Finset.univ fun r : Fin 31 => gSlotQ (tok r) c c (gathB m)) ∗ peersG c)
      ⊢ bigSep Finset.univ (send2B m c) := by
    unfold toks2 peersG
    rw [← bigSep_sep', ← bigSep_sep']
    refine bigSep_mono fun r _ => ?_
    exact reassoc _ _ _ _
  isplitr [Hrest]
  · iapply hjoin
    isplitl [Htok]; · iexact Htok
    isplitl [HG]; · iexact HG
    iexact HP
  iexact Hrest

/-- Every reduced chunk received: all slots can be read. -/
theorem g_whole (c : Dev nD) : iprop(waitSt m 3 c 31 ∗ restG m c) ⊢ iprop(GAll m c ∗ toksG m c ∗ atAll 3 c 1) := by
  unfold restG
  iintro ⟨H, HG⟩
  ihave H := (wait_done m 3 c) $$ H
  icases H with ⟨Hat, H⟩
  have hsplit : (bigSep Finset.univ fun r : Fin 31 => dmaPay m 3 c (peer c r))
      ⊢ iprop((bigSep Finset.univ fun r : Fin 31 => gSlotQ rest c (peer c r) (gathB m)) ∗ toksG m c) :=
    (bigSep_mono fun r _ => g_split m c (peer c r)).trans (Entails.of_eq (bigSep_sep' _ _ _))
  ihave H := hsplit $$ H
  icases H with ⟨H, Ht⟩
  isplitr [Ht Hat]
  · unfold GAll
    iapply (Entails.of_eq (g_slots m rest c).symm)
    isplitl [HG]; · iexact HG
    iexact H
  isplitl [Ht]; · iexact Ht
  iexact Hat

/-- At the end the reduced chunks are held in full again, -/
theorem g_end (c : Dev nD) : iprop(waitSt m 2 c 31 ∗ GAll m c ∗ toksG m c)
    ⊢ iprop((gLoc c ↦{fullShare} gathB m) ∗ atAll 2 c 1) := by
  iintro ⟨H, HG, Ht⟩
  ihave H := (wait_done m 2 c) $$ H
  icases H with ⟨Hat, H⟩
  unfold GAll
  ihave HG := (Entails.of_eq (g_slots m rest c)) $$ HG
  icases HG with ⟨Hrest, HG⟩
  have hown : (bigSep Finset.univ fun r : Fin 31 => dmaPay m 2 c (peer c r))
      ⊢ bigSep Finset.univ fun i : Fin 31 => gSlotQ (tok i) c c (gathB m) := by
    refine bigSep_mono fun r _ => ?_
    show gSlotQ (tok (pos c (peer c r))) c c (gathB m) ⊢ gSlotQ (tok r) c c (gathB m)
    rw [pos_peer]
  have hpeers : iprop((bigSep Finset.univ fun r : Fin 31 => gSlotQ rest c (peer c r) (gathB m)) ∗ toksG m c)
      ⊢ bigSep Finset.univ fun r : Fin 31 => gSlot c (peer c r) (gathB m) :=
    (Entails.of_eq (bigSep_sep' _ _ _).symm).trans (bigSep_mono fun r _ => g_join m c (peer c r))
  ihave H := hown $$ H
  isplitr [Hat]
  · iapply (Entails.of_eq (g_slots m fullShare c).symm)
    isplitl [Hrest H]
    · iapply (g_join m c c)
      isplitl [Hrest]; · iexact Hrest
      iexact H
    iapply hpeers
    isplitl [HG]; · iexact HG
    iexact Ht
  iexact Hat

/-- and the partial products. -/
theorem p_end (c : Dev nD) : iprop(waitSt m 0 c 31 ∗ pSlot c c (partB m c)) ⊢ iprop((pLoc c ↦{fullShare} partB m c) ∗ atAll 0 c 1) := by
  iintro ⟨H, HP⟩
  ihave H := (wait_done m 0 c) $$ H
  icases H with ⟨Hat, H⟩
  isplitr [Hat]
  · iapply (Entails.of_eq (p_slots m c).symm)
    isplitl [HP]; · iexact HP
    iexact H
  iexact Hat

/-- The result complete. -/
theorem o_end (c : Dev nD) : OSt m c 32 ⊢ (oLoc c ↦{fullShare} outB m : sProp 𝕄) := by
  unfold OSt
  iintro ⟨%f, %hf, Hp⟩
  have he : ((oLoc c ↦{fullShare} f) : sProp 𝕄) = (oLoc c ↦{fullShare} outB m) :=
    pointsTo_congr fun i _ => hf i (by have : (i 0).val < 768 := (i 0).isLt; omega)
  iapply (Entails.of_eq he); iexact Hp

end Cert.KernelIdeal.Mlp

end
-- ==== Proof.KernelIdeal.Ops.lean ====
/-
# The operations as the body writes them

`app f`: a part of the body at the launch's buffers and semaphores. The rules of `Steps.lean` and
`Local.lean` for an operation whose peer, semaphore and slot are given by the body's own expressions,
with the walk's counter a number.
-/
module

public import proofs.«01_k».proof.Proof.KernelIdeal.Phases

@[expose] public section

set_option maxRecDepth 20000

noncomputable section

namespace Cert.KernelIdeal.Mlp

open Cert.KernelIdeal Cert.KernelIdeal.Gen Cert.Peers Cert.Geometry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-- A part of the body at the buffers and semaphores of the launch. -/
abbrev app {β : Type 1} (f : (arg0 : Memref sig .tc .vmem S768x768 .bf16) → arg0.IsWhole → (arg1 : Memref sig .tc .vmem S768x1536 .bf16) → arg1.IsWhole →
    (arg2 : Memref sig .tc .vmem S768x1536 .bf16) → arg2.IsWhole → (arg3 : Memref sig .tc .vmem S1536x768 .bf16) → arg3.IsWhole →
    (arg4 : Memref sig .tc .vmem S768x768 .f32) → arg4.IsWhole → (arg5 : Memref sig .tc .vmem S32x24x768 .bf16) → arg5.IsWhole →
    (arg6 : Memref sig .tc .vmem S32x24x768 .bf16) → arg6.IsWhole → (arg7 : Memref sig .tc .vmem S32x24x768 .bf16) → arg7.IsWhole →
    DmaSems sig S32 → DmaSems sig S32 → DmaSems sig S32 → DmaSems sig S32 → β) : β :=
  f xM (Memref.isWhole_whole _) wgM (Memref.isWhole_whole _) wuM (Memref.isWhole_whole _) wdM (Memref.isWhole_whole _)
    oM (Memref.isWhole_whole _) pM (Memref.isWhole_whole _) cM (Memref.isWhole_whole _) gM (Memref.isWhole_whole _)
    cc0_scratch3 cc0_scratch4 cc0_scratch5 cc0_scratch6

/-- The semaphore array `a`. -/
abbrev arr (a : Fin 4) : DmaSems sig S32 := SemArray.consecutive (5 + 32 * a.val) S32 (by show 5 + 32 * a.val + 32 ≤ 133; omega)

/-! ## Which of the things held an operation needs -/

theorem front2 {c : Dev nD} {nb n1 n2 : ℕ} {α : Type} {Q : α → sProp 𝕄} {prog : Prog (TpuEff nD τ sig (Elt F) Λ₀ .tc) α} {A B R : sProp 𝕄}
    (h : Run m K c nb n1 n2 iprop(B ∗ A ∗ R) ⊢ WP c prog Q) : Run m K c nb n1 n2 iprop(A ∗ B ∗ R) ⊢ WP c prog Q := by
  refine (Run_mono m K ?_).trans h
  iintro ⟨HA, HB, HR⟩
  isplitl [HB]; · iexact HB
  isplitl [HA]; · iexact HA
  iexact HR
theorem front3 {c : Dev nD} {nb n1 n2 : ℕ} {α : Type} {Q : α → sProp 𝕄} {prog : Prog (TpuEff nD τ sig (Elt F) Λ₀ .tc) α} {A B C R : sProp 𝕄}
    (h : Run m K c nb n1 n2 iprop(C ∗ A ∗ B ∗ R) ⊢ WP c prog Q) : Run m K c nb n1 n2 iprop(A ∗ B ∗ C ∗ R) ⊢ WP c prog Q :=
  (Run_mono m K (by
    iintro ⟨HA, HB, HC, HR⟩
    isplitl [HC]; · iexact HC
    isplitl [HA]; · iexact HA
    isplitl [HB]; · iexact HB
    iexact HR)).trans h
theorem front4 {c : Dev nD} {nb n1 n2 : ℕ} {α : Type} {Q : α → sProp 𝕄} {prog : Prog (TpuEff nD τ sig (Elt F) Λ₀ .tc) α} {A B C D R : sProp 𝕄}
    (h : Run m K c nb n1 n2 iprop(D ∗ A ∗ B ∗ C ∗ R) ⊢ WP c prog Q) : Run m K c nb n1 n2 iprop(A ∗ B ∗ C ∗ D ∗ R) ⊢ WP c prog Q :=
  (Run_mono m K (by
    iintro ⟨HA, HB, HC, HD, HR⟩
    isplitl [HD]; · iexact HD
    isplitl [HA]; · iexact HA
    isplitl [HB]; · iexact HB
    isplitl [HC]; · iexact HC
    iexact HR)).trans h
/-- What is held in front is turned into something else. -/
theorem turn {c : Dev nD} {nb n1 n2 : ℕ} {α : Type} {Q : α → sProp 𝕄} {prog : Prog (TpuEff nD τ sig (Elt F) Λ₀ .tc) α} {S S' : sProp 𝕄}
    (hS : S ⊢ S') (h : Run m K c nb n1 n2 S' ⊢ WP c prog Q) : Run m K c nb n1 n2 S ⊢ WP c prog Q :=
  (Run_mono m K hS).trans h

/-- What is turned leaves the rest alone. -/
theorem frame34 {A B C D E G H R : sProp 𝕄} (h : iprop(A ∗ B ∗ C) ⊢ iprop(D ∗ E ∗ G ∗ H)) : iprop(A ∗ B ∗ C ∗ R) ⊢ iprop(D ∗ E ∗ G ∗ H ∗ R) := by
  iintro ⟨HA, HB, HC, HR⟩
  ihave H := h $$ [HA HB HC]
  · isplitl [HA]; · iexact HA
    isplitl [HB]; · iexact HB
    iexact HC
  icases H with ⟨KD, KE, KG, KH⟩
  isplitl [KD]; · iexact KD
  isplitl [KE]; · iexact KE
  isplitl [KG]; · iexact KG
  isplitl [KH]; · iexact KH
  iexact HR
theorem frame22 {A B D E R : sProp 𝕄} (h : iprop(A ∗ B) ⊢ iprop(D ∗ E)) : iprop(A ∗ B ∗ R) ⊢ iprop(D ∗ E ∗ R) := by
  iintro ⟨HA, HB, HR⟩
  ihave H := h $$ [HA HB]
  · isplitl [HA]; · iexact HA
    iexact HB
  icases H with ⟨KD, KE⟩
  isplitl [KD]; · iexact KD
  isplitl [KE]; · iexact KE
  iexact HR
theorem frame32 {A B C D E R : sProp 𝕄} (h : iprop(A ∗ B ∗ C) ⊢ iprop(D ∗ E)) : iprop(A ∗ B ∗ C ∗ R) ⊢ iprop(D ∗ E ∗ R) := by
  iintro ⟨HA, HB, HC, HR⟩
  ihave H := h $$ [HA HB HC]
  · isplitl [HA]; · iexact HA
    isplitl [HB]; · iexact HB
    iexact HC
  icases H with ⟨KD, KE⟩
  isplitl [KD]; · iexact KD
  isplitl [KE]; · iexact KE
  iexact HR
theorem frame23 {A B D E G R : sProp 𝕄} (h : iprop(A ∗ B) ⊢ iprop(D ∗ E ∗ G)) : iprop(A ∗ B ∗ R) ⊢ iprop(D ∗ E ∗ G ∗ R) := by
  iintro ⟨HA, HB, HR⟩
  ihave H := h $$ [HA HB]
  · isplitl [HA]; · iexact HA
    iexact HB
  icases H with ⟨KD, KE, KG⟩
  isplitl [KD]; · iexact KD
  isplitl [KE]; · iexact KE
  isplitl [KG]; · iexact KG
  iexact HR
theorem frame21 {A B D R : sProp 𝕄} (h : iprop(A ∗ B) ⊢ iprop(D)) : iprop(A ∗ B ∗ R) ⊢ iprop(D ∗ R) := by
  iintro ⟨HA, HB, HR⟩
  ihave H := h $$ [HA HB]
  · isplitl [HA]; · iexact HA
    iexact HB
  icases H with ⟨KD⟩
  isplitl [KD]; · iexact KD
  iexact HR

/-- A signal to the peer's barrier. -/
theorem signal {c : Dev nD} {α : Type} {Q : α → sProp 𝕄} {k : PUnit → Prog (TpuEff nD τ sig (Elt F) Λ₀ .tc) α} {R : sProp 𝕄}
    {n1 n2 : ℕ} (n : ℕ) (hn : n < 31) {x : ℕ} {hx : x < nD} (hp : x = (c.val + (n + 1)) % 32)
    (h : Run m K c (n + 1) n1 n2 iprop(sigSt (F := F) c (n + 1) ∗ R) ⊢ WP c (k ⟨⟩) Q) :
    Run m K c n n1 n2 iprop(sigSt (F := F) c n ∗ R)
      ⊢ WP c (.op (.semSignal ((⟨x, hx⟩ : Dev nD) : Thread nD τ) barS (1#32).toNat) k) Q :=
  step_signal m K ⟨n, hn⟩ (dev_peer ⟨n, hn⟩ hp) rfl h

/-- The slot's number as the body computes it. -/
theorem off1_at {c : Dev nD} (n : ℕ) (hn : n < 31) {w : BitVec 32} (hw : w = BitVec.ofNat 32 (1 + n)) : k0_off1 c w = ![(peer c ⟨n, hn⟩).val] := by
  subst hw
  exact k0_off1_eq c ⟨n, hn⟩
theorem off4_at {c : Dev nD} (n : ℕ) (hn : n < 31) {w : BitVec 32} (hw : w = BitVec.ofNat 32 (1 + n)) : k0_off4 c w = ![(peer c ⟨n, hn⟩).val, 0, 0] := by
  subst hw
  exact k0_off4_eq c ⟨n, hn⟩

/-- A wait on the semaphore of array `a` for peer `n`. -/
theorem wait {c : Dev nD} {α : Type} {Q : α → sProp 𝕄} {k : PUnit → Prog (TpuEff nD τ sig (Elt F) Λ₀ .tc) α} {R : sProp 𝕄}
    {n2 : ℕ} (a : Fin 4) (ha : n2 = 31 ∨ a = 0 ∨ a = 1) (n : ℕ) (hn : n < 31) {w : BitVec 32} (hw : w = BitVec.ofNat 32 (1 + n)) {inb sq}
    {sp sp' : Space} {s s' : Shape} {e e' : EltTy} {src : Memref sig .tc sp' s' e'} {dst : Memref sig .tc sp s e}
    {hsrc : src.view.WordExact} {hdst : dst.view.WordExact} (hN : dst.view.dmaCredit = N)
    (h : Run m K c 31 31 n2 iprop(waitSt m a c (n + 1) ∗ R) ⊢ WP c (k ⟨⟩) Q) :
    Run m K c 31 31 n2 iprop(waitSt m a c n ∗ R)
      ⊢ WP c (.op (.waitDma2 (((arr a).slice (Rect.unit (s := S32) (k0_off1 c w) S1.size inb)).squeeze S_ sq).sem src dst hsrc hdst) k) Q :=
  step_wait m K a ⟨n, hn⟩ (ha.imp id (by rintro (h | h) <;> subst h <;> first | exact Nat.zero_le 2 | exact Nat.le_refl 2))
    (sem_slice a _ rfl _ (off1_at n hn hw) _ _) hN h

/-- A transfer of the first exchange. -/
theorem send1 {c : Dev nD} {α : Type} {Q : α → sProp 𝕄} {k : PUnit → Prog (TpuEff nD τ sig (Elt F) Λ₀ .tc) α} {R : sProp 𝕄}
    {n2 : ℕ} (n : ℕ) (hn : n < 31) {w w' : BitVec 32} (hw : w = BitVec.ofNat 32 (1 + n)) (hw' : w' = BitVec.ofNat 32 (1 + n))
    {x : ℕ} {hx : x < nD} (hp : x = (c.val + (n + 1)) % 32) {i1 s1 i2 s2 inb inb'}
    {hsc : (slotM cM (k0_off3 c) inb').view.ref.isScScratch = false}
    {hsrc : (slotM pM (k0_off4 c w') inb).view.WordExact} {hdst : (slotM cM (k0_off3 c) inb').view.WordExact}
    {hsem : DmaTarget.Typed .vmem (.dma (((arr 1).slice (Rect.unit (s := S32) (k0_off2 c) S1.size i2)).squeeze S_ s2).sem)
      (.remote (Dev.tc (⟨x, hx⟩ : Dev nD) : Thread nD τ) (slotM cM (k0_off3 c) inb') (.dma (((arr 0).slice (Rect.unit (s := S32) (k0_off1 c w) S1.size i1)).squeeze S_ s1).sem) hsc)}
    (h : Run m K c 31 (n + 1) n2 iprop(send1St m c (n + 1) ∗ R) ⊢ WP c (k ⟨⟩) Q) :
    Run m K c 31 n n2 iprop(send1St m c n ∗ R)
      ⊢ WP c (.op (.enqueueDma (slotM pM (k0_off4 c w') inb)
          (.remote (Dev.tc (⟨x, hx⟩ : Dev nD) : Thread nD τ) (slotM cM (k0_off3 c) inb') (.dma (((arr 0).slice (Rect.unit (s := S32) (k0_off1 c w) S1.size i1)).squeeze S_ s1).sem) hsc)
          (.dma (((arr 1).slice (Rect.unit (s := S32) (k0_off2 c) S1.size i2)).squeeze S_ s2).sem) hsrc hdst hsem) k) Q :=
  step_send1 m K ⟨n, hn⟩ (dev_peer ⟨n, hn⟩ hp) (sem_slice 0 _ rfl _ (off1_at n hn hw) _ _) (sem_slice 1 _ rfl _ (k0_off2_eq c) _ _)
    (off4_at n hn hw') (k0_off3_eq c) h

/-- A transfer of the second exchange. -/
theorem send2 {c : Dev nD} {α : Type} {Q : α → sProp 𝕄} {k : PUnit → Prog (TpuEff nD τ sig (Elt F) Λ₀ .tc) α} {R : sProp 𝕄}
    (n : ℕ) (hn : n < 31) {w : BitVec 32} (hw : w = BitVec.ofNat 32 (1 + n))
    {x : ℕ} {hx : x < nD} (hp : x = (c.val + (n + 1)) % 32) {i1 s1 i2 s2 inb inb'}
    {hsc : (slotM gM (k0_off3 c) inb').view.ref.isScScratch = false}
    {hsrc : (slotM gM (k0_off3 c) inb).view.WordExact} {hdst : (slotM gM (k0_off3 c) inb').view.WordExact}
    {hsem : DmaTarget.Typed .vmem (.dma (((arr 3).slice (Rect.unit (s := S32) (k0_off2 c) S1.size i2)).squeeze S_ s2).sem)
      (.remote (Dev.tc (⟨x, hx⟩ : Dev nD) : Thread nD τ) (slotM gM (k0_off3 c) inb') (.dma (((arr 2).slice (Rect.unit (s := S32) (k0_off1 c w) S1.size i1)).squeeze S_ s1).sem) hsc)}
    (h : Run m K c 31 31 (n + 1) iprop(send2St m c (n + 1) ∗ R) ⊢ WP c (k ⟨⟩) Q) :
    Run m K c 31 31 n iprop(send2St m c n ∗ R)
      ⊢ WP c (.op (.enqueueDma (slotM gM (k0_off3 c) inb)
          (.remote (Dev.tc (⟨x, hx⟩ : Dev nD) : Thread nD τ) (slotM gM (k0_off3 c) inb') (.dma (((arr 2).slice (Rect.unit (s := S32) (k0_off1 c w) S1.size i1)).squeeze S_ s1).sem) hsc)
          (.dma (((arr 3).slice (Rect.unit (s := S32) (k0_off2 c) S1.size i2)).squeeze S_ s2).sem) hsrc hdst hsem) k) Q :=
  step_send2 m K ⟨n, hn⟩ (dev_peer ⟨n, hn⟩ hp) (sem_slice 2 _ rfl _ (off1_at n hn hw) _ _) (sem_slice 3 _ rfl _ (k0_off2_eq c) _ _)
    (k0_off3_eq c) (k0_off3_eq c) h

theorem rows_slices (n : ℕ) (hn : n < 32) : S768x768.Slices ![24 * n, 0] S24x768 :=
  ⟨rfl, fun a => by fin_cases a <;> [(show 24 * n + 24 ≤ 768; omega); exact Nat.le_refl 768]⟩

/-- The store of rows `24 n` to `24 n + 23` of the product into slot `n`. -/
theorem storeP {c : Dev nD} {α : Type} {Q : α → sProp 𝕄} {k : PUnit → Prog (TpuEff nD τ sig (Elt F) Λ₀ .tc) α} {R : sProp 𝕄}
    {nb n1 n2 : ℕ} (n : ℕ) (hn : n < 32) {off : Fin 3 → ℕ} (ho : off = ![n, 0, 0]) {inb hx hm} {w : S1x24x768.Idx → Elt F .bf16}
    {hc : S24x768.ShapeCasts S1x24x768} (hw : w = shapeCast S1x24x768 (extractStridedSlice S24x768 ![24 * n, 0] (prod m c) (rows_slices n hn)) hc)
    (h : Run m K c nb n1 n2 iprop(PSt m c (n + 1) ∗ R) ⊢ WP c (k ⟨⟩) Q) :
    Run m K c nb n1 n2 iprop(PSt m c n ∗ R)
      ⊢ WP c (.op (.store pM (Rect.unit (s := S32x24x768) off S1x24x768.size inb) w Finset.univ hx hm) k) Q := by
  subst hw
  exact step_store_P m K ⟨n, hn⟩ ho (part_pay ⟨n, hn⟩ rfl (prod m c) (rows_slices n hn) hc) h

/-- The store of slot `n` of the reduced chunks into row block `n` of the result. -/
theorem storeO {c : Dev nD} {α : Type} {Q : α → sProp 𝕄} {k : PUnit → Prog (TpuEff nD τ sig (Elt F) Λ₀ .tc) α} {R : sProp 𝕄}
    {nb n1 n2 : ℕ} (n : ℕ) (hn : n < 32) {o : ℕ} (ho : o = 24 * n) {inb hx hm} {w : S24x768.Idx → Elt F .f32}
    (hw : w = k0_pay41 (gathSlot m ⟨n, hn⟩))
    (h : Run m K c nb n1 n2 iprop(GAll m c ∗ OSt m c (n + 1) ∗ R) ⊢ WP c (k ⟨⟩) Q) :
    Run m K c nb n1 n2 iprop(GAll m c ∗ OSt m c n ∗ R)
      ⊢ WP c (.op (.store oM (Rect.unit (s := S768x768) ![o, 0] S24x768.size inb) w Finset.univ hx hm) k) Q := by
  subst ho
  exact step_store_O m K ⟨n, hn⟩ rfl hw h

/-- The load of slot `n` of the reduced chunks. -/
theorem loadG {c : Dev nD} {nb n1 n2 : ℕ} {α : Type} {Q : α → sProp 𝕄} {R : sProp 𝕄} (n : ℕ) (hn : n < 32) {inb hl}
    {k : (S1x24x768.Idx → Elt F .bf16) → Prog (TpuEff nD τ sig (Elt F) Λ₀ .tc) α}
    (h : Run m K c nb n1 n2 iprop(GAll m c ∗ R) ⊢ WP c (k (gathSlot m ⟨n, hn⟩)) Q) :
    Run m K c nb n1 n2 iprop(GAll m c ∗ R)
      ⊢ WP c (.op (.load gM (Rect.unit (s := S32x24x768) ![n, 0, 0] S1x24x768.size inb).toLoadRect hl) k) Q :=
  step_load_G m K ⟨n, hn⟩ rfl h

end Cert.KernelIdeal.Mlp

end
-- ==== Proof.KernelIdeal.PartsA.lean ====
/-
# The body's first parts: the barrier and the partial product

Parts 1 to 11 of the body: the 31 barrier signals and the wait, the product, its 32 slots stored, and the first two
transfers. Each theorem: if the rest of the program is correct from the state after the part, the program is from the state before.
-/
module

public import proofs.«01_k».proof.Proof.KernelIdeal.Ops

@[expose] public section

set_option maxRecDepth 20000

noncomputable section

namespace Cert.KernelIdeal.Mlp

open Cert.KernelIdeal Cert.KernelIdeal.Gen Cert.Peers Cert.Geometry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-- Signals to peers 0 to 4. -/
theorem part1 {c : Dev nD} {α : Type} {Q : α → sProp 𝕄} {R : sProp 𝕄} {k : (Σ' (d0 : Dev nD) (v2 : BitVec 32) (v3 : Sems sig S_) (v24 : BitVec 32), BitVec 32) → Prog (TpuEff nD τ sig (Elt F) Λ₀ .tc) α}
    (h : ∀ v2 v24 v, Run m K c 5 0 0 iprop(sigSt (F := F) c 5 ∗ R) ⊢ WP c (k ⟨c, v2, SemArray.scalar (sig.barrier 0 rfl), v24, v⟩) Q) :
    Run m K c 0 0 0 iprop(sigSt (F := F) c 0 ∗ R) ⊢ WP c (app (k0_part1 (F := F)) >>= k) Q := by
  unfold app
  rw [k0_part1_eq_skeleton]; unfold k0_part1_skel
  simp only [semSignalWord, semWaitWord, Prog.lift, Prog.bind_op, Prog.bind_ret, Prog.pure_eq_ret]
  rw [WP, wp_deviceId]
  refine signal m K 0 (by decide) (k0_dev1_eq c) ?_
  refine signal m K 1 (by decide) (k0_dev2_eq c) ?_
  refine signal m K 2 (by decide) (k0_dev3_eq c) ?_
  refine signal m K 3 (by decide) (k0_dev4_eq c) ?_
  refine signal m K 4 (by decide) (k0_dev5_eq c) ?_
  exact h _ _ _

/-- Signals to peers 5 to 10. -/
theorem part2 {c : Dev nD} {α : Type} {Q : α → sProp 𝕄} {R : sProp 𝕄} {v2 : BitVec 32} {v24 : BitVec 32} {c32_i32_20 : BitVec 32} {k : (Σ' (v48 : BitVec 32), BitVec 32) → Prog (TpuEff nD τ sig (Elt F) Λ₀ .tc) α}
    (h : ∀ v w, Run m K c 11 0 0 iprop(sigSt (F := F) c 11 ∗ R) ⊢ WP c (k ⟨v, w⟩) Q) :
    Run m K c 5 0 0 iprop(sigSt (F := F) c 5 ∗ R) ⊢ WP c ((app (k0_part2 (F := F)) c v2 (SemArray.scalar (sig.barrier 0 rfl)) v24 c32_i32_20) >>= k) Q := by
  unfold app
  rw [k0_part2_eq_skeleton]; unfold k0_part2_skel
  simp only [semSignalWord, semWaitWord, Prog.lift, Prog.bind_op, Prog.bind_ret, Prog.pure_eq_ret]
  refine signal m K 5 (by decide) (k0_dev6_eq c) ?_
  refine signal m K 6 (by decide) (k0_dev7_eq c) ?_
  refine signal m K 7 (by decide) (k0_dev8_eq c) ?_
  refine signal m K 8 (by decide) (k0_dev9_eq c) ?_
  refine signal m K 9 (by decide) (k0_dev10_eq c) ?_
  refine signal m K 10 (by decide) (k0_dev11_eq c) ?_
  exact h _ _

/-- Signals to peers 11 to 16. -/
theorem part3 {c : Dev nD} {α : Type} {Q : α → sProp 𝕄} {R : sProp 𝕄} {v2 : BitVec 32} {v48 : BitVec 32} {c32_i32_44 : BitVec 32} {k : (Σ' (v72 : BitVec 32), BitVec 32) → Prog (TpuEff nD τ sig (Elt F) Λ₀ .tc) α}
    (h : ∀ v w, Run m K c 17 0 0 iprop(sigSt (F := F) c 17 ∗ R) ⊢ WP c (k ⟨v, w⟩) Q) :
    Run m K c 11 0 0 iprop(sigSt (F := F) c 11 ∗ R) ⊢ WP c ((app (k0_part3 (F := F)) c v2 (SemArray.scalar (sig.barrier 0 rfl)) v48 c32_i32_44) >>= k) Q := by
  unfold app
  rw [k0_part3_eq_skeleton]; unfold k0_part3_skel
  simp only [semSignalWord, semWaitWord, Prog.lift, Prog.bind_op, Prog.bind_ret, Prog.pure_eq_ret]
  refine signal m K 11 (by decide) (k0_dev12_eq c) ?_
  refine signal m K 12 (by decide) (k0_dev13_eq c) ?_
  refine signal m K 13 (by decide) (k0_dev14_eq c) ?_
  refine signal m K 14 (by decide) (k0_dev15_eq c) ?_
  refine signal m K 15 (by decide) (k0_dev16_eq c) ?_
  refine signal m K 16 (by decide) (k0_dev17_eq c) ?_
  exact h _ _

/-- Signals to peers 17 to 22. -/
theorem part4 {c : Dev nD} {α : Type} {Q : α → sProp 𝕄} {R : sProp 𝕄} {v2 : BitVec 32} {v72 : BitVec 32} {c32_i32_68 : BitVec 32} {k : (Σ' (v96 : BitVec 32), BitVec 32) → Prog (TpuEff nD τ sig (Elt F) Λ₀ .tc) α}
    (h : ∀ v w, Run m K c 23 0 0 iprop(sigSt (F := F) c 23 ∗ R) ⊢ WP c (k ⟨v, w⟩) Q) :
    Run m K c 17 0 0 iprop(sigSt (F := F) c 17 ∗ R) ⊢ WP c ((app (k0_part4 (F := F)) c v2 (SemArray.scalar (sig.barrier 0 rfl)) v72 c32_i32_68) >>= k) Q := by
  unfold app
  rw [k0_part4_eq_skeleton]; unfold k0_part4_skel
  simp only [semSignalWord, semWaitWord, Prog.lift, Prog.bind_op, Prog.bind_ret, Prog.pure_eq_ret]
  refine signal m K 17 (by decide) (k0_dev18_eq c) ?_
  refine signal m K 18 (by decide) (k0_dev19_eq c) ?_
  refine signal m K 19 (by decide) (k0_dev20_eq c) ?_
  refine signal m K 20 (by decide) (k0_dev21_eq c) ?_
  refine signal m K 21 (by decide) (k0_dev22_eq c) ?_
  refine signal m K 22 (by decide) (k0_dev23_eq c) ?_
  exact h _ _

/-- Signals to peers 23 to 28. -/
theorem part5 {c : Dev nD} {α : Type} {Q : α → sProp 𝕄} {R : sProp 𝕄} {v2 : BitVec 32} {v96 : BitVec 32} {c32_i32_92 : BitVec 32} {k : (Σ' (v120 : BitVec 32), BitVec 32) → Prog (TpuEff nD τ sig (Elt F) Λ₀ .tc) α}
    (h : ∀ v w, Run m K c 29 0 0 iprop(sigSt (F := F) c 29 ∗ R) ⊢ WP c (k ⟨v, w⟩) Q) :
    Run m K c 23 0 0 iprop(sigSt (F := F) c 23 ∗ R) ⊢ WP c ((app (k0_part5 (F := F)) c v2 (SemArray.scalar (sig.barrier 0 rfl)) v96 c32_i32_92) >>= k) Q := by
  unfold app
  rw [k0_part5_eq_skeleton]; unfold k0_part5_skel
  simp only [semSignalWord, semWaitWord, Prog.lift, Prog.bind_op, Prog.bind_ret, Prog.pure_eq_ret]
  refine signal m K 23 (by decide) (k0_dev24_eq c) ?_
  refine signal m K 24 (by decide) (k0_dev25_eq c) ?_
  refine signal m K 25 (by decide) (k0_dev26_eq c) ?_
  refine signal m K 26 (by decide) (k0_dev27_eq c) ?_
  refine signal m K 27 (by decide) (k0_dev28_eq c) ?_
  refine signal m K 28 (by decide) (k0_dev29_eq c) ?_
  exact h _ _

/-- The last two signals, the wait for the peers' signals, the product, and its slot 0 stored. -/
theorem part6 {c : Dev nD} {α : Type} {Q : α → sProp 𝕄} {R : sProp 𝕄} {v2 : BitVec 32} {v120 : BitVec 32} {c32_i32_116 : BitVec 32} {k : (Σ' (v143 : FVec F S768x768 .bf16) (v148 : FVec F S24x768 .bf16), Vec F S1x24x768 .bf16) → Prog (TpuEff nD τ sig (Elt F) Λ₀ .tc) α}
    (h : ∀ v, Run m K c 31 0 0 iprop(PSt m c 1 ∗ ins m c ∗ barA c ∗ sigSt c 31 ∗ R) ⊢ WP c (k ⟨prod m c, k0_pay3 (xstg m c) (wgstg m c) (wustg m c) (wdstg m c), v⟩) Q) :
    Run m K c 29 0 0 iprop(sigSt (F := F) c 29 ∗ barB c ∗ ins m c ∗ PSt m c 0 ∗ R) ⊢ WP c ((app (k0_part6 (F := F)) c v2 (SemArray.scalar (sig.barrier 0 rfl)) v120 c32_i32_116) >>= k) Q := by
  unfold app
  rw [k0_part6_eq_skeleton]; unfold k0_part6_skel
  simp only [semSignalWord, semWaitWord, Prog.lift, Prog.bind_op, Prog.bind_ret, Prog.pure_eq_ret]
  refine signal m K 29 (by decide) (k0_dev30_eq c) ?_
  refine signal m K 30 (by decide) (k0_dev31_eq c) ?_
  refine front2 m K (step_barrier m K rfl ?_)
  refine front3 m K ?_
  refine step_load_x m K (step_load_wg m K (step_load_wu m K (step_load_wd m K ?_)))
  refine front4 m K ?_
  refine step_load_P m K fun _ => ?_
  refine storeP m K 0 (by decide) rfl rfl ?_
  refine step_load_P m K fun _ => ?_
  exact h _

/-- Slots 1 to 8 stored. -/
theorem part7 {c : Dev nD} {α : Type} {Q : α → sProp 𝕄} {R : sProp 𝕄} {v149 : Vec F S1x24x768 .bf16} {k : (FVec F S24x768 .bf16) → Prog (TpuEff nD τ sig (Elt F) Λ₀ .tc) α}
    (h : Run m K c 31 0 0 iprop(PSt m c 9 ∗ R) ⊢ WP c (k (k0_pay12 (prod m c))) Q) :
    Run m K c 31 0 0 iprop(PSt m c 1 ∗ R) ⊢ WP c ((app (k0_part7 (F := F)) (prod m c) (k0_pay3 (xstg m c) (wgstg m c) (wustg m c) (wdstg m c)) v149) >>= k) Q := by
  unfold app
  rw [k0_part7_eq_skeleton]; unfold k0_part7_skel
  simp only [semSignalWord, semWaitWord, Prog.lift, Prog.bind_op, Prog.bind_ret, Prog.pure_eq_ret]
  refine storeP m K 1 (by decide) rfl rfl ?_
  refine step_load_P m K fun _ => ?_
  refine storeP m K 2 (by decide) rfl rfl ?_
  refine step_load_P m K fun _ => ?_
  refine storeP m K 3 (by decide) rfl rfl ?_
  refine step_load_P m K fun _ => ?_
  refine storeP m K 4 (by decide) rfl rfl ?_
  refine step_load_P m K fun _ => ?_
  refine storeP m K 5 (by decide) rfl rfl ?_
  refine step_load_P m K fun _ => ?_
  refine storeP m K 6 (by decide) rfl rfl ?_
  refine step_load_P m K fun _ => ?_
  refine storeP m K 7 (by decide) rfl rfl ?_
  refine step_load_P m K fun _ => ?_
  refine storeP m K 8 (by decide) rfl rfl ?_
  exact h

/-- Slots 9 to 15 stored. -/
theorem part8 {c : Dev nD} {α : Type} {Q : α → sProp 𝕄} {R : sProp 𝕄} {k : (Σ' (v208 : FVec F S24x768 .bf16), Vec F S1x24x768 .bf16) → Prog (TpuEff nD τ sig (Elt F) Λ₀ .tc) α}
    (h : ∀ v, Run m K c 31 0 0 iprop(PSt m c 16 ∗ R) ⊢ WP c (k ⟨k0_pay20 (prod m c), v⟩) Q) :
    Run m K c 31 0 0 iprop(PSt m c 9 ∗ R) ⊢ WP c ((app (k0_part8 (F := F)) (prod m c) (k0_pay12 (prod m c))) >>= k) Q := by
  unfold app
  rw [k0_part8_eq_skeleton]; unfold k0_part8_skel
  simp only [semSignalWord, semWaitWord, Prog.lift, Prog.bind_op, Prog.bind_ret, Prog.pure_eq_ret]
  refine step_load_P m K fun _ => ?_
  refine storeP m K 9 (by decide) rfl rfl ?_
  refine step_load_P m K fun _ => ?_
  refine storeP m K 10 (by decide) rfl rfl ?_
  refine step_load_P m K fun _ => ?_
  refine storeP m K 11 (by decide) rfl rfl ?_
  refine step_load_P m K fun _ => ?_
  refine storeP m K 12 (by decide) rfl rfl ?_
  refine step_load_P m K fun _ => ?_
  refine storeP m K 13 (by decide) rfl rfl ?_
  refine step_load_P m K fun _ => ?_
  refine storeP m K 14 (by decide) rfl rfl ?_
  refine step_load_P m K fun _ => ?_
  refine storeP m K 15 (by decide) rfl rfl ?_
  refine step_load_P m K fun _ => ?_
  exact h _

/-- Slots 16 to 23 stored. -/
theorem part9 {c : Dev nD} {α : Type} {Q : α → sProp 𝕄} {R : sProp 𝕄} {v209 : Vec F S1x24x768 .bf16} {k : (FVec F S24x768 .bf16) → Prog (TpuEff nD τ sig (Elt F) Λ₀ .tc) α}
    (h : Run m K c 31 0 0 iprop(PSt m c 24 ∗ R) ⊢ WP c (k (k0_pay29 (prod m c))) Q) :
    Run m K c 31 0 0 iprop(PSt m c 16 ∗ R) ⊢ WP c ((app (k0_part9 (F := F)) (prod m c) (k0_pay20 (prod m c)) v209) >>= k) Q := by
  unfold app
  rw [k0_part9_eq_skeleton]; unfold k0_part9_skel
  simp only [semSignalWord, semWaitWord, Prog.lift, Prog.bind_op, Prog.bind_ret, Prog.pure_eq_ret]
  refine storeP m K 16 (by decide) rfl rfl ?_
  refine step_load_P m K fun _ => ?_
  refine storeP m K 17 (by decide) rfl rfl ?_
  refine step_load_P m K fun _ => ?_
  refine storeP m K 18 (by decide) rfl rfl ?_
  refine step_load_P m K fun _ => ?_
  refine storeP m K 19 (by decide) rfl rfl ?_
  refine step_load_P m K fun _ => ?_
  refine storeP m K 20 (by decide) rfl rfl ?_
  refine step_load_P m K fun _ => ?_
  refine storeP m K 21 (by decide) rfl rfl ?_
  refine step_load_P m K fun _ => ?_
  refine storeP m K 22 (by decide) rfl rfl ?_
  refine step_load_P m K fun _ => ?_
  refine storeP m K 23 (by decide) rfl rfl ?_
  exact h

/-- Slots 24 to 30 stored. -/
theorem part10 {c : Dev nD} {α : Type} {Q : α → sProp 𝕄} {R : sProp 𝕄} {k : (Σ' (v268 : FVec F S24x768 .bf16), Vec F S1x24x768 .bf16) → Prog (TpuEff nD τ sig (Elt F) Λ₀ .tc) α}
    (h : ∀ v, Run m K c 31 0 0 iprop(PSt m c 31 ∗ R) ⊢ WP c (k ⟨k0_pay37 (prod m c), v⟩) Q) :
    Run m K c 31 0 0 iprop(PSt m c 24 ∗ R) ⊢ WP c ((app (k0_part10 (F := F)) (prod m c) (k0_pay29 (prod m c))) >>= k) Q := by
  unfold app
  rw [k0_part10_eq_skeleton]; unfold k0_part10_skel
  simp only [semSignalWord, semWaitWord, Prog.lift, Prog.bind_op, Prog.bind_ret, Prog.pure_eq_ret]
  refine step_load_P m K fun _ => ?_
  refine storeP m K 24 (by decide) rfl rfl ?_
  refine step_load_P m K fun _ => ?_
  refine storeP m K 25 (by decide) rfl rfl ?_
  refine step_load_P m K fun _ => ?_
  refine storeP m K 26 (by decide) rfl rfl ?_
  refine step_load_P m K fun _ => ?_
  refine storeP m K 27 (by decide) rfl rfl ?_
  refine step_load_P m K fun _ => ?_
  refine storeP m K 28 (by decide) rfl rfl ?_
  refine step_load_P m K fun _ => ?_
  refine storeP m K 29 (by decide) rfl rfl ?_
  refine step_load_P m K fun _ => ?_
  refine storeP m K 30 (by decide) rfl rfl ?_
  refine step_load_P m K fun _ => ?_
  exact h _

/-- Slot 31 stored and the first two transfers issued. -/
theorem part11 {c : Dev nD} {α : Type} {Q : α → sProp 𝕄} {R : sProp 𝕄} {v2 : BitVec 32} {v269 : Vec F S1x24x768 .bf16} {k : (PUnit) → Prog (TpuEff nD τ sig (Elt F) Λ₀ .tc) α}
    (h : Run m K c 31 2 0 iprop(send1St m c 2 ∗ pSlot c c (partB m c) ∗ barPos c ∗ peersG c ∗ R) ⊢ WP c (k ⟨⟩) Q) :
    Run m K c 31 0 0 iprop(PSt m c 31 ∗ barA c ∗ toks1 c ∗ R) ⊢ WP c ((app (k0_part11 (F := F)) c v2 (k0_pay37 (prod m c)) v269) >>= k) Q := by
  unfold app
  rw [k0_part11_eq_skeleton]; unfold k0_part11_skel
  simp only [semSignalWord, semWaitWord, Prog.lift, Prog.bind_op, Prog.bind_ret, Prog.pure_eq_ret]
  refine storeP m K 31 (by decide) rfl rfl ?_
  refine turn m K (frame34 (send1_start m c)) ?_
  refine send1 m K 0 (by decide) rfl rfl (k0_dev32_eq c) ?_
  refine send1 m K 1 (by decide) rfl rfl (k0_dev33_eq c) ?_
  exact h

end Cert.KernelIdeal.Mlp

end
-- ==== Proof.KernelIdeal.PartsB.lean ====
/-
# The first exchange

Parts 12 to 37 of the body: the rest of the first exchange's transfers, the own chunk copied, and the waits for the
chunks that arrive and for the transfers to be read out.
-/
module

public import proofs.«01_k».proof.Proof.KernelIdeal.Ops

@[expose] public section

set_option maxRecDepth 20000

noncomputable section

namespace Cert.KernelIdeal.Mlp

open Cert.KernelIdeal Cert.KernelIdeal.Gen Cert.Peers Cert.Geometry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-- Transfers 2 to 4 of the first exchange. -/
theorem part12 {c : Dev nD} {α : Type} {Q : α → sProp 𝕄} {R : sProp 𝕄} {v2 : BitVec 32} {k : (PUnit) → Prog (TpuEff nD τ sig (Elt F) Λ₀ .tc) α}
    (h : Run m K c 31 5 0 iprop(send1St m c 5 ∗ R) ⊢ WP c (k ⟨⟩) Q) :
    Run m K c 31 2 0 iprop(send1St m c 2 ∗ R) ⊢ WP c ((app (k0_part12 (F := F)) c v2) >>= k) Q := by
  unfold app
  rw [k0_part12_eq_skeleton]; unfold k0_part12_skel
  simp only [semSignalWord, semWaitWord, Prog.lift, Prog.bind_op, Prog.bind_ret, Prog.pure_eq_ret]
  refine send1 m K 2 (by decide) rfl rfl (k0_dev34_eq c) ?_
  refine send1 m K 3 (by decide) rfl rfl (k0_dev35_eq c) ?_
  refine send1 m K 4 (by decide) rfl rfl (k0_dev36_eq c) ?_
  exact h

/-- Transfers 5 to 7 of the first exchange. -/
theorem part13 {c : Dev nD} {α : Type} {Q : α → sProp 𝕄} {R : sProp 𝕄} {v2 : BitVec 32} {k : (PUnit) → Prog (TpuEff nD τ sig (Elt F) Λ₀ .tc) α}
    (h : Run m K c 31 8 0 iprop(send1St m c 8 ∗ R) ⊢ WP c (k ⟨⟩) Q) :
    Run m K c 31 5 0 iprop(send1St m c 5 ∗ R) ⊢ WP c ((app (k0_part13 (F := F)) c v2) >>= k) Q := by
  unfold app
  rw [k0_part13_eq_skeleton]; unfold k0_part13_skel
  simp only [semSignalWord, semWaitWord, Prog.lift, Prog.bind_op, Prog.bind_ret, Prog.pure_eq_ret]
  refine send1 m K 5 (by decide) rfl rfl (k0_dev37_eq c) ?_
  refine send1 m K 6 (by decide) rfl rfl (k0_dev38_eq c) ?_
  refine send1 m K 7 (by decide) rfl rfl (k0_dev39_eq c) ?_
  exact h

/-- Transfers 8 to 10 of the first exchange. -/
theorem part14 {c : Dev nD} {α : Type} {Q : α → sProp 𝕄} {R : sProp 𝕄} {v2 : BitVec 32} {k : (BitVec 32) → Prog (TpuEff nD τ sig (Elt F) Λ₀ .tc) α}
    (h : ∀ v, Run m K c 31 11 0 iprop(send1St m c 11 ∗ R) ⊢ WP c (k v) Q) :
    Run m K c 31 8 0 iprop(send1St m c 8 ∗ R) ⊢ WP c ((app (k0_part14 (F := F)) c v2) >>= k) Q := by
  unfold app
  rw [k0_part14_eq_skeleton]; unfold k0_part14_skel
  simp only [semSignalWord, semWaitWord, Prog.lift, Prog.bind_op, Prog.bind_ret, Prog.pure_eq_ret]
  refine send1 m K 8 (by decide) rfl rfl (k0_dev40_eq c) ?_
  refine send1 m K 9 (by decide) rfl rfl (k0_dev41_eq c) ?_
  refine send1 m K 10 (by decide) rfl rfl (k0_dev42_eq c) ?_
  exact h _

/-- Transfers 11 to 13 of the first exchange. -/
theorem part15 {c : Dev nD} {α : Type} {Q : α → sProp 𝕄} {R : sProp 𝕄} {v2 : BitVec 32} {v406 : BitVec 32} {k : (Σ' (v440 : BitVec 32), BitVec 32) → Prog (TpuEff nD τ sig (Elt F) Λ₀ .tc) α}
    (h : ∀ v w, Run m K c 31 14 0 iprop(send1St m c 14 ∗ R) ⊢ WP c (k ⟨v, w⟩) Q) :
    Run m K c 31 11 0 iprop(send1St m c 11 ∗ R) ⊢ WP c ((app (k0_part15 (F := F)) c v2 v406) >>= k) Q := by
  unfold app
  rw [k0_part15_eq_skeleton]; unfold k0_part15_skel
  simp only [semSignalWord, semWaitWord, Prog.lift, Prog.bind_op, Prog.bind_ret, Prog.pure_eq_ret]
  refine send1 m K 11 (by decide) rfl rfl (k0_dev43_eq c) ?_
  refine send1 m K 12 (by decide) rfl rfl (k0_dev44_eq c) ?_
  refine send1 m K 13 (by decide) rfl rfl (k0_dev45_eq c) ?_
  exact h _ _

/-- Transfers 14 to 16 of the first exchange. -/
theorem part16 {c : Dev nD} {α : Type} {Q : α → sProp 𝕄} {R : sProp 𝕄} {v2 : BitVec 32} {v440 : BitVec 32} {c32_i32_312 : BitVec 32} {k : (PUnit) → Prog (TpuEff nD τ sig (Elt F) Λ₀ .tc) α}
    (h : Run m K c 31 17 0 iprop(send1St m c 17 ∗ R) ⊢ WP c (k ⟨⟩) Q) :
    Run m K c 31 14 0 iprop(send1St m c 14 ∗ R) ⊢ WP c ((app (k0_part16 (F := F)) c v2 v440 c32_i32_312) >>= k) Q := by
  unfold app
  rw [k0_part16_eq_skeleton]; unfold k0_part16_skel
  simp only [semSignalWord, semWaitWord, Prog.lift, Prog.bind_op, Prog.bind_ret, Prog.pure_eq_ret]
  refine send1 m K 14 (by decide) rfl rfl (k0_dev46_eq c) ?_
  refine send1 m K 15 (by decide) rfl rfl (k0_dev47_eq c) ?_
  refine send1 m K 16 (by decide) rfl rfl (k0_dev48_eq c) ?_
  exact h

/-- Transfers 17 to 18 of the first exchange. -/
theorem part17 {c : Dev nD} {α : Type} {Q : α → sProp 𝕄} {R : sProp 𝕄} {v2 : BitVec 32} {k : (PUnit) → Prog (TpuEff nD τ sig (Elt F) Λ₀ .tc) α}
    (h : Run m K c 31 19 0 iprop(send1St m c 19 ∗ R) ⊢ WP c (k ⟨⟩) Q) :
    Run m K c 31 17 0 iprop(send1St m c 17 ∗ R) ⊢ WP c ((app (k0_part17 (F := F)) c v2) >>= k) Q := by
  unfold app
  rw [k0_part17_eq_skeleton]; unfold k0_part17_skel
  simp only [semSignalWord, semWaitWord, Prog.lift, Prog.bind_op, Prog.bind_ret, Prog.pure_eq_ret]
  refine send1 m K 17 (by decide) rfl rfl (k0_dev49_eq c) ?_
  refine send1 m K 18 (by decide) rfl rfl (k0_dev50_eq c) ?_
  exact h

/-- Transfers 19 to 21 of the first exchange. -/
theorem part18 {c : Dev nD} {α : Type} {Q : α → sProp 𝕄} {R : sProp 𝕄} {v2 : BitVec 32} {k : (PUnit) → Prog (TpuEff nD τ sig (Elt F) Λ₀ .tc) α}
    (h : Run m K c 31 22 0 iprop(send1St m c 22 ∗ R) ⊢ WP c (k ⟨⟩) Q) :
    Run m K c 31 19 0 iprop(send1St m c 19 ∗ R) ⊢ WP c ((app (k0_part18 (F := F)) c v2) >>= k) Q := by
  unfold app
  rw [k0_part18_eq_skeleton]; unfold k0_part18_skel
  simp only [semSignalWord, semWaitWord, Prog.lift, Prog.bind_op, Prog.bind_ret, Prog.pure_eq_ret]
  refine send1 m K 19 (by decide) rfl rfl (k0_dev51_eq c) ?_
  refine send1 m K 20 (by decide) rfl rfl (k0_dev52_eq c) ?_
  refine send1 m K 21 (by decide) rfl rfl (k0_dev53_eq c) ?_
  exact h

/-- Transfers 22 to 24 of the first exchange. -/
theorem part19 {c : Dev nD} {α : Type} {Q : α → sProp 𝕄} {R : sProp 𝕄} {v2 : BitVec 32} {k : (PUnit) → Prog (TpuEff nD τ sig (Elt F) Λ₀ .tc) α}
    (h : Run m K c 31 25 0 iprop(send1St m c 25 ∗ R) ⊢ WP c (k ⟨⟩) Q) :
    Run m K c 31 22 0 iprop(send1St m c 22 ∗ R) ⊢ WP c ((app (k0_part19 (F := F)) c v2) >>= k) Q := by
  unfold app
  rw [k0_part19_eq_skeleton]; unfold k0_part19_skel
  simp only [semSignalWord, semWaitWord, Prog.lift, Prog.bind_op, Prog.bind_ret, Prog.pure_eq_ret]
  refine send1 m K 22 (by decide) rfl rfl (k0_dev54_eq c) ?_
  refine send1 m K 23 (by decide) rfl rfl (k0_dev55_eq c) ?_
  refine send1 m K 24 (by decide) rfl rfl (k0_dev56_eq c) ?_
  exact h

/-- Transfers 25 to 27 of the first exchange. -/
theorem part20 {c : Dev nD} {α : Type} {Q : α → sProp 𝕄} {R : sProp 𝕄} {v2 : BitVec 32} {k : (PUnit) → Prog (TpuEff nD τ sig (Elt F) Λ₀ .tc) α}
    (h : Run m K c 31 28 0 iprop(send1St m c 28 ∗ R) ⊢ WP c (k ⟨⟩) Q) :
    Run m K c 31 25 0 iprop(send1St m c 25 ∗ R) ⊢ WP c ((app (k0_part20 (F := F)) c v2) >>= k) Q := by
  unfold app
  rw [k0_part20_eq_skeleton]; unfold k0_part20_skel
  simp only [semSignalWord, semWaitWord, Prog.lift, Prog.bind_op, Prog.bind_ret, Prog.pure_eq_ret]
  refine send1 m K 25 (by decide) rfl rfl (k0_dev57_eq c) ?_
  refine send1 m K 26 (by decide) rfl rfl (k0_dev58_eq c) ?_
  refine send1 m K 27 (by decide) rfl rfl (k0_dev59_eq c) ?_
  exact h

/-- The last three transfers of the first exchange; the own chunk is loaded. -/
theorem part21 {c : Dev nD} {α : Type} {Q : α → sProp 𝕄} {R : sProp 𝕄} {v2 : BitVec 32} {k : (Vec F S1x24x768 .bf16) → Prog (TpuEff nD τ sig (Elt F) Λ₀ .tc) α}
    (h : Run m K c 31 31 0 iprop(own m c ∗ send1St m c 31 ∗ R) ⊢ WP c (k (ownP m c)) Q) :
    Run m K c 31 28 0 iprop(send1St m c 28 ∗ own m c ∗ R) ⊢ WP c ((app (k0_part21 (F := F)) c v2) >>= k) Q := by
  unfold app
  rw [k0_part21_eq_skeleton]; unfold k0_part21_skel
  simp only [semSignalWord, semWaitWord, Prog.lift, Prog.bind_op, Prog.bind_ret, Prog.pure_eq_ret]
  refine send1 m K 28 (by decide) rfl rfl (k0_dev60_eq c) ?_
  refine send1 m K 29 (by decide) rfl rfl (k0_dev61_eq c) ?_
  refine send1 m K 30 (by decide) rfl rfl (k0_dev62_eq c) ?_
  refine front2 m K ?_
  refine step_load_own m K (k0_off5_eq c) ?_
  exact h

/-- The own chunk is copied; waits 0 and 1 for the chunks to arrive. -/
theorem part22 {c : Dev nD} {α : Type} {Q : α → sProp 𝕄} {R : sProp 𝕄} {v2 : BitVec 32} {k : (PUnit) → Prog (TpuEff nD τ sig (Elt F) Λ₀ .tc) α}
    (h : Run m K c 31 31 0 iprop(waitSt m 1 c 2 ∗ owned m c ∗ R) ⊢ WP c (k ⟨⟩) Q) :
    Run m K c 31 31 0 iprop(own m c ∗ waitSt m 1 c 0 ∗ R) ⊢ WP c ((app (k0_part22 (F := F)) c v2 (ownP m c)) >>= k) Q := by
  unfold app
  rw [k0_part22_eq_skeleton]; unfold k0_part22_skel
  simp only [semSignalWord, semWaitWord, Prog.lift, Prog.bind_op, Prog.bind_ret, Prog.pure_eq_ret]
  refine step_load_ownC m K (k0_off5_eq c) fun _ => ?_
  refine step_store_ownC m K (k0_off5_eq c) ?_ ?_
  · exact cast_same _ _
  refine front2 m K ?_
  refine wait m K 1 (.inr (by decide)) 0 (by decide) rfl rfl ?_
  refine wait m K 1 (.inr (by decide)) 1 (by decide) rfl rfl ?_
  exact h

/-- Waits 2 to 5 for the chunks to arrive. -/
theorem part23 {c : Dev nD} {α : Type} {Q : α → sProp 𝕄} {R : sProp 𝕄} {v2 : BitVec 32} {k : (BitVec 32) → Prog (TpuEff nD τ sig (Elt F) Λ₀ .tc) α}
    (h : ∀ v, Run m K c 31 31 0 iprop(waitSt m 1 c 6 ∗ R) ⊢ WP c (k v) Q) :
    Run m K c 31 31 0 iprop(waitSt m 1 c 2 ∗ R) ⊢ WP c ((app (k0_part23 (F := F)) c v2) >>= k) Q := by
  unfold app
  rw [k0_part23_eq_skeleton]; unfold k0_part23_skel
  simp only [semSignalWord, semWaitWord, Prog.lift, Prog.bind_op, Prog.bind_ret, Prog.pure_eq_ret]
  refine wait m K 1 (.inr (by decide)) 2 (by decide) rfl rfl ?_
  refine wait m K 1 (.inr (by decide)) 3 (by decide) rfl rfl ?_
  refine wait m K 1 (.inr (by decide)) 4 (by decide) rfl rfl ?_
  refine wait m K 1 (.inr (by decide)) 5 (by decide) rfl rfl ?_
  exact h _

/-- Waits 6 to 8 for the chunks to arrive. -/
theorem part24 {c : Dev nD} {α : Type} {Q : α → sProp 𝕄} {R : sProp 𝕄} {v2 : BitVec 32} {c7_i32_499 : BitVec 32} {k : (BitVec 32) → Prog (TpuEff nD τ sig (Elt F) Λ₀ .tc) α}
    (h : ∀ v, Run m K c 31 31 0 iprop(waitSt m 1 c 9 ∗ R) ⊢ WP c (k v) Q) :
    Run m K c 31 31 0 iprop(waitSt m 1 c 6 ∗ R) ⊢ WP c ((app (k0_part24 (F := F)) c v2 c7_i32_499) >>= k) Q := by
  unfold app
  rw [k0_part24_eq_skeleton]; unfold k0_part24_skel
  simp only [semSignalWord, semWaitWord, Prog.lift, Prog.bind_op, Prog.bind_ret, Prog.pure_eq_ret]
  refine wait m K 1 (.inr (by decide)) 6 (by decide) rfl rfl ?_
  refine wait m K 1 (.inr (by decide)) 7 (by decide) rfl rfl ?_
  refine wait m K 1 (.inr (by decide)) 8 (by decide) rfl rfl ?_
  exact h _

/-- Waits 9 to 11 for the chunks to arrive. -/
theorem part25 {c : Dev nD} {α : Type} {Q : α → sProp 𝕄} {R : sProp 𝕄} {v2 : BitVec 32} {v741 : BitVec 32} {k : (Σ' (v772 : BitVec 32), BitVec 32) → Prog (TpuEff nD τ sig (Elt F) Λ₀ .tc) α}
    (h : ∀ v w, Run m K c 31 31 0 iprop(waitSt m 1 c 12 ∗ R) ⊢ WP c (k ⟨v, w⟩) Q) :
    Run m K c 31 31 0 iprop(waitSt m 1 c 9 ∗ R) ⊢ WP c ((app (k0_part25 (F := F)) c v2 v741) >>= k) Q := by
  unfold app
  rw [k0_part25_eq_skeleton]; unfold k0_part25_skel
  simp only [semSignalWord, semWaitWord, Prog.lift, Prog.bind_op, Prog.bind_ret, Prog.pure_eq_ret]
  refine wait m K 1 (.inr (by decide)) 9 (by decide) rfl rfl ?_
  refine wait m K 1 (.inr (by decide)) 10 (by decide) rfl rfl ?_
  refine wait m K 1 (.inr (by decide)) 11 (by decide) rfl rfl ?_
  exact h _ _

/-- Waits 12 to 14 for the chunks to arrive. -/
theorem part26 {c : Dev nD} {α : Type} {Q : α → sProp 𝕄} {R : sProp 𝕄} {v2 : BitVec 32} {v772 : BitVec 32} {c0_i32_550 : BitVec 32} {k : (PUnit) → Prog (TpuEff nD τ sig (Elt F) Λ₀ .tc) α}
    (h : Run m K c 31 31 0 iprop(waitSt m 1 c 15 ∗ R) ⊢ WP c (k ⟨⟩) Q) :
    Run m K c 31 31 0 iprop(waitSt m 1 c 12 ∗ R) ⊢ WP c ((app (k0_part26 (F := F)) c v2 v772 c0_i32_550) >>= k) Q := by
  unfold app
  rw [k0_part26_eq_skeleton]; unfold k0_part26_skel
  simp only [semSignalWord, semWaitWord, Prog.lift, Prog.bind_op, Prog.bind_ret, Prog.pure_eq_ret]
  refine wait m K 1 (.inr (by decide)) 12 (by decide) rfl rfl ?_
  refine wait m K 1 (.inr (by decide)) 13 (by decide) rfl rfl ?_
  refine wait m K 1 (.inr (by decide)) 14 (by decide) rfl rfl ?_
  exact h

/-- Waits 15 to 17 for the chunks to arrive. -/
theorem part27 {c : Dev nD} {α : Type} {Q : α → sProp 𝕄} {R : sProp 𝕄} {v2 : BitVec 32} {k : (PUnit) → Prog (TpuEff nD τ sig (Elt F) Λ₀ .tc) α}
    (h : Run m K c 31 31 0 iprop(waitSt m 1 c 18 ∗ R) ⊢ WP c (k ⟨⟩) Q) :
    Run m K c 31 31 0 iprop(waitSt m 1 c 15 ∗ R) ⊢ WP c ((app (k0_part27 (F := F)) c v2) >>= k) Q := by
  unfold app
  rw [k0_part27_eq_skeleton]; unfold k0_part27_skel
  simp only [semSignalWord, semWaitWord, Prog.lift, Prog.bind_op, Prog.bind_ret, Prog.pure_eq_ret]
  refine wait m K 1 (.inr (by decide)) 15 (by decide) rfl rfl ?_
  refine wait m K 1 (.inr (by decide)) 16 (by decide) rfl rfl ?_
  refine wait m K 1 (.inr (by decide)) 17 (by decide) rfl rfl ?_
  exact h

/-- Waits 18 to 20 for the chunks to arrive. -/
theorem part28 {c : Dev nD} {α : Type} {Q : α → sProp 𝕄} {R : sProp 𝕄} {v2 : BitVec 32} {k : (PUnit) → Prog (TpuEff nD τ sig (Elt F) Λ₀ .tc) α}
    (h : Run m K c 31 31 0 iprop(waitSt m 1 c 21 ∗ R) ⊢ WP c (k ⟨⟩) Q) :
    Run m K c 31 31 0 iprop(waitSt m 1 c 18 ∗ R) ⊢ WP c ((app (k0_part28 (F := F)) c v2) >>= k) Q := by
  unfold app
  rw [k0_part28_eq_skeleton]; unfold k0_part28_skel
  simp only [semSignalWord, semWaitWord, Prog.lift, Prog.bind_op, Prog.bind_ret, Prog.pure_eq_ret]
  refine wait m K 1 (.inr (by decide)) 18 (by decide) rfl rfl ?_
  refine wait m K 1 (.inr (by decide)) 19 (by decide) rfl rfl ?_
  refine wait m K 1 (.inr (by decide)) 20 (by decide) rfl rfl ?_
  exact h

/-- Waits 21 to 24 for the chunks to arrive. -/
theorem part29 {c : Dev nD} {α : Type} {Q : α → sProp 𝕄} {R : sProp 𝕄} {v2 : BitVec 32} {k : (PUnit) → Prog (TpuEff nD τ sig (Elt F) Λ₀ .tc) α}
    (h : Run m K c 31 31 0 iprop(waitSt m 1 c 25 ∗ R) ⊢ WP c (k ⟨⟩) Q) :
    Run m K c 31 31 0 iprop(waitSt m 1 c 21 ∗ R) ⊢ WP c ((app (k0_part29 (F := F)) c v2) >>= k) Q := by
  unfold app
  rw [k0_part29_eq_skeleton]; unfold k0_part29_skel
  simp only [semSignalWord, semWaitWord, Prog.lift, Prog.bind_op, Prog.bind_ret, Prog.pure_eq_ret]
  refine wait m K 1 (.inr (by decide)) 21 (by decide) rfl rfl ?_
  refine wait m K 1 (.inr (by decide)) 22 (by decide) rfl rfl ?_
  refine wait m K 1 (.inr (by decide)) 23 (by decide) rfl rfl ?_
  refine wait m K 1 (.inr (by decide)) 24 (by decide) rfl rfl ?_
  exact h

/-- Waits 25 to 27 for the chunks to arrive. -/
theorem part30 {c : Dev nD} {α : Type} {Q : α → sProp 𝕄} {R : sProp 𝕄} {v2 : BitVec 32} {k : (Σ' (v930 : BitVec 32), BitVec 32) → Prog (TpuEff nD τ sig (Elt F) Λ₀ .tc) α}
    (h : ∀ v w, Run m K c 31 31 0 iprop(waitSt m 1 c 28 ∗ R) ⊢ WP c (k ⟨v, w⟩) Q) :
    Run m K c 31 31 0 iprop(waitSt m 1 c 25 ∗ R) ⊢ WP c ((app (k0_part30 (F := F)) c v2) >>= k) Q := by
  unfold app
  rw [k0_part30_eq_skeleton]; unfold k0_part30_skel
  simp only [semSignalWord, semWaitWord, Prog.lift, Prog.bind_op, Prog.bind_ret, Prog.pure_eq_ret]
  refine wait m K 1 (.inr (by decide)) 25 (by decide) rfl rfl ?_
  refine wait m K 1 (.inr (by decide)) 26 (by decide) rfl rfl ?_
  refine wait m K 1 (.inr (by decide)) 27 (by decide) rfl rfl ?_
  exact h _ _

/-- Waits 28 to 30 for the chunks to arrive. -/
theorem part31 {c : Dev nD} {α : Type} {Q : α → sProp 𝕄} {R : sProp 𝕄} {v2 : BitVec 32} {v930 : BitVec 32} {c32_i32_676 : BitVec 32} {k : (PUnit) → Prog (TpuEff nD τ sig (Elt F) Λ₀ .tc) α}
    (h : Run m K c 31 31 0 iprop(waitSt m 1 c 31 ∗ R) ⊢ WP c (k ⟨⟩) Q) :
    Run m K c 31 31 0 iprop(waitSt m 1 c 28 ∗ R) ⊢ WP c ((app (k0_part31 (F := F)) c v2 v930 c32_i32_676) >>= k) Q := by
  unfold app
  rw [k0_part31_eq_skeleton]; unfold k0_part31_skel
  simp only [semSignalWord, semWaitWord, Prog.lift, Prog.bind_op, Prog.bind_ret, Prog.pure_eq_ret]
  refine wait m K 1 (.inr (by decide)) 28 (by decide) rfl rfl ?_
  refine wait m K 1 (.inr (by decide)) 29 (by decide) rfl rfl ?_
  refine wait m K 1 (.inr (by decide)) 30 (by decide) rfl rfl ?_
  exact h

/-- Waits 0 to 4 for the first exchange's transfers to be read out. -/
theorem part32 {c : Dev nD} {α : Type} {Q : α → sProp 𝕄} {R : sProp 𝕄} {k : (PUnit) → Prog (TpuEff nD τ sig (Elt F) Λ₀ .tc) α}
    (h : Run m K c 31 31 0 iprop(waitSt m 0 c 5 ∗ R) ⊢ WP c (k ⟨⟩) Q) :
    Run m K c 31 31 0 iprop(waitSt m 0 c 0 ∗ R) ⊢ WP c ((app (k0_part32 (F := F)) c) >>= k) Q := by
  unfold app
  rw [k0_part32_eq_skeleton]; unfold k0_part32_skel
  simp only [semSignalWord, semWaitWord, Prog.lift, Prog.bind_op, Prog.bind_ret, Prog.pure_eq_ret]
  refine wait m K 0 (.inr (by decide)) 0 (by decide) rfl rfl ?_
  refine wait m K 0 (.inr (by decide)) 1 (by decide) rfl rfl ?_
  refine wait m K 0 (.inr (by decide)) 2 (by decide) rfl rfl ?_
  refine wait m K 0 (.inr (by decide)) 3 (by decide) rfl rfl ?_
  refine wait m K 0 (.inr (by decide)) 4 (by decide) rfl rfl ?_
  exact h

/-- Waits 5 to 9 for the first exchange's transfers to be read out. -/
theorem part33 {c : Dev nD} {α : Type} {Q : α → sProp 𝕄} {R : sProp 𝕄} {k : (PUnit) → Prog (TpuEff nD τ sig (Elt F) Λ₀ .tc) α}
    (h : Run m K c 31 31 0 iprop(waitSt m 0 c 10 ∗ R) ⊢ WP c (k ⟨⟩) Q) :
    Run m K c 31 31 0 iprop(waitSt m 0 c 5 ∗ R) ⊢ WP c ((app (k0_part33 (F := F)) c) >>= k) Q := by
  unfold app
  rw [k0_part33_eq_skeleton]; unfold k0_part33_skel
  simp only [semSignalWord, semWaitWord, Prog.lift, Prog.bind_op, Prog.bind_ret, Prog.pure_eq_ret]
  refine wait m K 0 (.inr (by decide)) 5 (by decide) rfl rfl ?_
  refine wait m K 0 (.inr (by decide)) 6 (by decide) rfl rfl ?_
  refine wait m K 0 (.inr (by decide)) 7 (by decide) rfl rfl ?_
  refine wait m K 0 (.inr (by decide)) 8 (by decide) rfl rfl ?_
  refine wait m K 0 (.inr (by decide)) 9 (by decide) rfl rfl ?_
  exact h

/-- Waits 10 to 14 for the first exchange's transfers to be read out. -/
theorem part34 {c : Dev nD} {α : Type} {Q : α → sProp 𝕄} {R : sProp 𝕄} {k : (PUnit) → Prog (TpuEff nD τ sig (Elt F) Λ₀ .tc) α}
    (h : Run m K c 31 31 0 iprop(waitSt m 0 c 15 ∗ R) ⊢ WP c (k ⟨⟩) Q) :
    Run m K c 31 31 0 iprop(waitSt m 0 c 10 ∗ R) ⊢ WP c ((app (k0_part34 (F := F)) c) >>= k) Q := by
  unfold app
  rw [k0_part34_eq_skeleton]; unfold k0_part34_skel
  simp only [semSignalWord, semWaitWord, Prog.lift, Prog.bind_op, Prog.bind_ret, Prog.pure_eq_ret]
  refine wait m K 0 (.inr (by decide)) 10 (by decide) rfl rfl ?_
  refine wait m K 0 (.inr (by decide)) 11 (by decide) rfl rfl ?_
  refine wait m K 0 (.inr (by decide)) 12 (by decide) rfl rfl ?_
  refine wait m K 0 (.inr (by decide)) 13 (by decide) rfl rfl ?_
  refine wait m K 0 (.inr (by decide)) 14 (by decide) rfl rfl ?_
  exact h

/-- Waits 15 to 19 for the first exchange's transfers to be read out. -/
theorem part35 {c : Dev nD} {α : Type} {Q : α → sProp 𝕄} {R : sProp 𝕄} {k : (PUnit) → Prog (TpuEff nD τ sig (Elt F) Λ₀ .tc) α}
    (h : Run m K c 31 31 0 iprop(waitSt m 0 c 20 ∗ R) ⊢ WP c (k ⟨⟩) Q) :
    Run m K c 31 31 0 iprop(waitSt m 0 c 15 ∗ R) ⊢ WP c ((app (k0_part35 (F := F)) c) >>= k) Q := by
  unfold app
  rw [k0_part35_eq_skeleton]; unfold k0_part35_skel
  simp only [semSignalWord, semWaitWord, Prog.lift, Prog.bind_op, Prog.bind_ret, Prog.pure_eq_ret]
  refine wait m K 0 (.inr (by decide)) 15 (by decide) rfl rfl ?_
  refine wait m K 0 (.inr (by decide)) 16 (by decide) rfl rfl ?_
  refine wait m K 0 (.inr (by decide)) 17 (by decide) rfl rfl ?_
  refine wait m K 0 (.inr (by decide)) 18 (by decide) rfl rfl ?_
  refine wait m K 0 (.inr (by decide)) 19 (by decide) rfl rfl ?_
  exact h

/-- Waits 20 to 24 for the first exchange's transfers to be read out. -/
theorem part36 {c : Dev nD} {α : Type} {Q : α → sProp 𝕄} {R : sProp 𝕄} {k : (PUnit) → Prog (TpuEff nD τ sig (Elt F) Λ₀ .tc) α}
    (h : Run m K c 31 31 0 iprop(waitSt m 0 c 25 ∗ R) ⊢ WP c (k ⟨⟩) Q) :
    Run m K c 31 31 0 iprop(waitSt m 0 c 20 ∗ R) ⊢ WP c ((app (k0_part36 (F := F)) c) >>= k) Q := by
  unfold app
  rw [k0_part36_eq_skeleton]; unfold k0_part36_skel
  simp only [semSignalWord, semWaitWord, Prog.lift, Prog.bind_op, Prog.bind_ret, Prog.pure_eq_ret]
  refine wait m K 0 (.inr (by decide)) 20 (by decide) rfl rfl ?_
  refine wait m K 0 (.inr (by decide)) 21 (by decide) rfl rfl ?_
  refine wait m K 0 (.inr (by decide)) 22 (by decide) rfl rfl ?_
  refine wait m K 0 (.inr (by decide)) 23 (by decide) rfl rfl ?_
  refine wait m K 0 (.inr (by decide)) 24 (by decide) rfl rfl ?_
  exact h

/-- Waits 25 to 29 for the first exchange's transfers to be read out. -/
theorem part37 {c : Dev nD} {α : Type} {Q : α → sProp 𝕄} {R : sProp 𝕄} {k : (PUnit) → Prog (TpuEff nD τ sig (Elt F) Λ₀ .tc) α}
    (h : Run m K c 31 31 0 iprop(waitSt m 0 c 30 ∗ R) ⊢ WP c (k ⟨⟩) Q) :
    Run m K c 31 31 0 iprop(waitSt m 0 c 25 ∗ R) ⊢ WP c ((app (k0_part37 (F := F)) c) >>= k) Q := by
  unfold app
  rw [k0_part37_eq_skeleton]; unfold k0_part37_skel
  simp only [semSignalWord, semWaitWord, Prog.lift, Prog.bind_op, Prog.bind_ret, Prog.pure_eq_ret]
  refine wait m K 0 (.inr (by decide)) 25 (by decide) rfl rfl ?_
  refine wait m K 0 (.inr (by decide)) 26 (by decide) rfl rfl ?_
  refine wait m K 0 (.inr (by decide)) 27 (by decide) rfl rfl ?_
  refine wait m K 0 (.inr (by decide)) 28 (by decide) rfl rfl ?_
  refine wait m K 0 (.inr (by decide)) 29 (by decide) rfl rfl ?_
  exact h

end Cert.KernelIdeal.Mlp

end
-- ==== Proof.KernelIdeal.PartsC.lean ====
/-
# The second exchange and the result

Parts 38 to 69 of the body: the received chunks are summed, the sum is sent to every peer, and the chunks received are
stored in the result.
-/
module

public import proofs.«01_k».proof.Proof.KernelIdeal.Ops

@[expose] public section

set_option maxRecDepth 20000

noncomputable section

namespace Cert.KernelIdeal.Mlp

open Cert.KernelIdeal Cert.KernelIdeal.Gen Cert.Peers Cert.Geometry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-- From the reduced chunk to the second exchange; the rest is left alone. -/
theorem frame38 {A B C X Y D E R : sProp 𝕄} (h : iprop(A ∗ B ∗ C) ⊢ iprop(D ∗ E)) : iprop(A ∗ X ∗ Y ∗ B ∗ C ∗ R) ⊢ iprop(D ∗ E ∗ X ∗ Y ∗ R) := by
  iintro ⟨HA, HX, HY, HB, HC, HR⟩
  ihave H := h $$ [HA HB HC]
  · isplitl [HA]; · iexact HA
    isplitl [HB]; · iexact HB
    iexact HC
  icases H with ⟨KD, KE⟩
  isplitl [KD]; · iexact KD
  isplitl [KE]; · iexact KE
  isplitl [HX]; · iexact HX
  isplitl [HY]; · iexact HY
  iexact HR

/-- The last transfer is read out; the chunks are summed and the first transfer of the sum is issued. -/
theorem part38 {c : Dev nD} {α : Type} {Q : α → sProp 𝕄} {R : sProp 𝕄} {v2 : BitVec 32} {k : (PUnit) → Prog (TpuEff nD τ sig (Elt F) Λ₀ .tc) α}
    (h : Run m K c 31 31 1 iprop(send2St m c 1 ∗ restG m c ∗ CAll m c ∗ waitSt m 0 c 31 ∗ R) ⊢ WP c (k ⟨⟩) Q) :
    Run m K c 31 31 0 iprop(waitSt m 0 c 30 ∗ CAll m c ∗ ownG (F := F) c ∗ peersG c ∗ toks2 c ∗ R) ⊢ WP c ((app (k0_part38 (F := F)) c v2) >>= k) Q := by
  unfold app
  rw [k0_part38_eq_skeleton]; unfold k0_part38_skel
  simp only [semSignalWord, semWaitWord, Prog.lift, Prog.bind_op, Prog.bind_ret, Prog.pure_eq_ret]
  refine wait m K 0 (.inr (by decide)) 30 (by decide) rfl rfl ?_
  refine front2 m K (step_load_C m K ?_)
  refine front3 m K (step_load_ownG m K (k0_off5_eq c) fun _ => step_store_ownG m K (k0_off5_eq c) ?_)
  refine turn m K (frame38 (send2_start m c)) ?_
  refine send2 m K 0 (by decide) rfl (k0_dev63_eq c) ?_
  exact h

/-- Transfers 1 to 3 of the second exchange. -/
theorem part39 {c : Dev nD} {α : Type} {Q : α → sProp 𝕄} {R : sProp 𝕄} {v2 : BitVec 32} {k : (PUnit) → Prog (TpuEff nD τ sig (Elt F) Λ₀ .tc) α}
    (h : Run m K c 31 31 4 iprop(send2St m c 4 ∗ R) ⊢ WP c (k ⟨⟩) Q) :
    Run m K c 31 31 1 iprop(send2St m c 1 ∗ R) ⊢ WP c ((app (k0_part39 (F := F)) c v2) >>= k) Q := by
  unfold app
  rw [k0_part39_eq_skeleton]; unfold k0_part39_skel
  simp only [semSignalWord, semWaitWord, Prog.lift, Prog.bind_op, Prog.bind_ret, Prog.pure_eq_ret]
  refine send2 m K 1 (by decide) rfl (k0_dev64_eq c) ?_
  refine send2 m K 2 (by decide) rfl (k0_dev65_eq c) ?_
  refine send2 m K 3 (by decide) rfl (k0_dev66_eq c) ?_
  exact h

/-- Transfers 4 to 6 of the second exchange. -/
theorem part40 {c : Dev nD} {α : Type} {Q : α → sProp 𝕄} {R : sProp 𝕄} {v2 : BitVec 32} {k : (PUnit) → Prog (TpuEff nD τ sig (Elt F) Λ₀ .tc) α}
    (h : Run m K c 31 31 7 iprop(send2St m c 7 ∗ R) ⊢ WP c (k ⟨⟩) Q) :
    Run m K c 31 31 4 iprop(send2St m c 4 ∗ R) ⊢ WP c ((app (k0_part40 (F := F)) c v2) >>= k) Q := by
  unfold app
  rw [k0_part40_eq_skeleton]; unfold k0_part40_skel
  simp only [semSignalWord, semWaitWord, Prog.lift, Prog.bind_op, Prog.bind_ret, Prog.pure_eq_ret]
  refine send2 m K 4 (by decide) rfl (k0_dev67_eq c) ?_
  refine send2 m K 5 (by decide) rfl (k0_dev68_eq c) ?_
  refine send2 m K 6 (by decide) rfl (k0_dev69_eq c) ?_
  exact h

/-- Transfers 7 to 9 of the second exchange. -/
theorem part41 {c : Dev nD} {α : Type} {Q : α → sProp 𝕄} {R : sProp 𝕄} {v2 : BitVec 32} {k : (PUnit) → Prog (TpuEff nD τ sig (Elt F) Λ₀ .tc) α}
    (h : Run m K c 31 31 10 iprop(send2St m c 10 ∗ R) ⊢ WP c (k ⟨⟩) Q) :
    Run m K c 31 31 7 iprop(send2St m c 7 ∗ R) ⊢ WP c ((app (k0_part41 (F := F)) c v2) >>= k) Q := by
  unfold app
  rw [k0_part41_eq_skeleton]; unfold k0_part41_skel
  simp only [semSignalWord, semWaitWord, Prog.lift, Prog.bind_op, Prog.bind_ret, Prog.pure_eq_ret]
  refine send2 m K 7 (by decide) rfl (k0_dev70_eq c) ?_
  refine send2 m K 8 (by decide) rfl (k0_dev71_eq c) ?_
  refine send2 m K 9 (by decide) rfl (k0_dev72_eq c) ?_
  exact h

/-- Transfers 10 to 12 of the second exchange. -/
theorem part42 {c : Dev nD} {α : Type} {Q : α → sProp 𝕄} {R : sProp 𝕄} {v2 : BitVec 32} {k : (Σ' (v1312 : BitVec 32), BitVec 32) → Prog (TpuEff nD τ sig (Elt F) Λ₀ .tc) α}
    (h : ∀ v w, Run m K c 31 31 13 iprop(send2St m c 13 ∗ R) ⊢ WP c (k ⟨v, w⟩) Q) :
    Run m K c 31 31 10 iprop(send2St m c 10 ∗ R) ⊢ WP c ((app (k0_part42 (F := F)) c v2) >>= k) Q := by
  unfold app
  rw [k0_part42_eq_skeleton]; unfold k0_part42_skel
  simp only [semSignalWord, semWaitWord, Prog.lift, Prog.bind_op, Prog.bind_ret, Prog.pure_eq_ret]
  refine send2 m K 10 (by decide) rfl (k0_dev73_eq c) ?_
  refine send2 m K 11 (by decide) rfl (k0_dev74_eq c) ?_
  refine send2 m K 12 (by decide) rfl (k0_dev75_eq c) ?_
  exact h _ _

/-- Transfers 13 to 15 of the second exchange. -/
theorem part43 {c : Dev nD} {α : Type} {Q : α → sProp 𝕄} {R : sProp 𝕄} {v2 : BitVec 32} {v1312 : BitVec 32} {c1_i32_966 : BitVec 32} {k : (BitVec 32) → Prog (TpuEff nD τ sig (Elt F) Λ₀ .tc) α}
    (h : ∀ v, Run m K c 31 31 16 iprop(send2St m c 16 ∗ R) ⊢ WP c (k v) Q) :
    Run m K c 31 31 13 iprop(send2St m c 13 ∗ R) ⊢ WP c ((app (k0_part43 (F := F)) c v2 v1312 c1_i32_966) >>= k) Q := by
  unfold app
  rw [k0_part43_eq_skeleton]; unfold k0_part43_skel
  simp only [semSignalWord, semWaitWord, Prog.lift, Prog.bind_op, Prog.bind_ret, Prog.pure_eq_ret]
  refine send2 m K 13 (by decide) rfl (k0_dev76_eq c) ?_
  refine send2 m K 14 (by decide) rfl (k0_dev77_eq c) ?_
  refine send2 m K 15 (by decide) rfl (k0_dev78_eq c) ?_
  exact h _

/-- Transfers 16 to 17 of the second exchange. -/
theorem part44 {c : Dev nD} {α : Type} {Q : α → sProp 𝕄} {R : sProp 𝕄} {v2 : BitVec 32} {v1347 : BitVec 32} {k : (PUnit) → Prog (TpuEff nD τ sig (Elt F) Λ₀ .tc) α}
    (h : Run m K c 31 31 18 iprop(send2St m c 18 ∗ R) ⊢ WP c (k ⟨⟩) Q) :
    Run m K c 31 31 16 iprop(send2St m c 16 ∗ R) ⊢ WP c ((app (k0_part44 (F := F)) c v2 v1347) >>= k) Q := by
  unfold app
  rw [k0_part44_eq_skeleton]; unfold k0_part44_skel
  simp only [semSignalWord, semWaitWord, Prog.lift, Prog.bind_op, Prog.bind_ret, Prog.pure_eq_ret]
  refine send2 m K 16 (by decide) rfl (k0_dev79_eq c) ?_
  refine send2 m K 17 (by decide) rfl (k0_dev80_eq c) ?_
  exact h

/-- Transfers 18 to 20 of the second exchange. -/
theorem part45 {c : Dev nD} {α : Type} {Q : α → sProp 𝕄} {R : sProp 𝕄} {v2 : BitVec 32} {k : (PUnit) → Prog (TpuEff nD τ sig (Elt F) Λ₀ .tc) α}
    (h : Run m K c 31 31 21 iprop(send2St m c 21 ∗ R) ⊢ WP c (k ⟨⟩) Q) :
    Run m K c 31 31 18 iprop(send2St m c 18 ∗ R) ⊢ WP c ((app (k0_part45 (F := F)) c v2) >>= k) Q := by
  unfold app
  rw [k0_part45_eq_skeleton]; unfold k0_part45_skel
  simp only [semSignalWord, semWaitWord, Prog.lift, Prog.bind_op, Prog.bind_ret, Prog.pure_eq_ret]
  refine send2 m K 18 (by decide) rfl (k0_dev81_eq c) ?_
  refine send2 m K 19 (by decide) rfl (k0_dev82_eq c) ?_
  refine send2 m K 20 (by decide) rfl (k0_dev83_eq c) ?_
  exact h

/-- Transfers 21 to 23 of the second exchange. -/
theorem part46 {c : Dev nD} {α : Type} {Q : α → sProp 𝕄} {R : sProp 𝕄} {v2 : BitVec 32} {k : (PUnit) → Prog (TpuEff nD τ sig (Elt F) Λ₀ .tc) α}
    (h : Run m K c 31 31 24 iprop(send2St m c 24 ∗ R) ⊢ WP c (k ⟨⟩) Q) :
    Run m K c 31 31 21 iprop(send2St m c 21 ∗ R) ⊢ WP c ((app (k0_part46 (F := F)) c v2) >>= k) Q := by
  unfold app
  rw [k0_part46_eq_skeleton]; unfold k0_part46_skel
  simp only [semSignalWord, semWaitWord, Prog.lift, Prog.bind_op, Prog.bind_ret, Prog.pure_eq_ret]
  refine send2 m K 21 (by decide) rfl (k0_dev84_eq c) ?_
  refine send2 m K 22 (by decide) rfl (k0_dev85_eq c) ?_
  refine send2 m K 23 (by decide) rfl (k0_dev86_eq c) ?_
  exact h

/-- Transfers 24 to 26 of the second exchange. -/
theorem part47 {c : Dev nD} {α : Type} {Q : α → sProp 𝕄} {R : sProp 𝕄} {v2 : BitVec 32} {k : (PUnit) → Prog (TpuEff nD τ sig (Elt F) Λ₀ .tc) α}
    (h : Run m K c 31 31 27 iprop(send2St m c 27 ∗ R) ⊢ WP c (k ⟨⟩) Q) :
    Run m K c 31 31 24 iprop(send2St m c 24 ∗ R) ⊢ WP c ((app (k0_part47 (F := F)) c v2) >>= k) Q := by
  unfold app
  rw [k0_part47_eq_skeleton]; unfold k0_part47_skel
  simp only [semSignalWord, semWaitWord, Prog.lift, Prog.bind_op, Prog.bind_ret, Prog.pure_eq_ret]
  refine send2 m K 24 (by decide) rfl (k0_dev87_eq c) ?_
  refine send2 m K 25 (by decide) rfl (k0_dev88_eq c) ?_
  refine send2 m K 26 (by decide) rfl (k0_dev89_eq c) ?_
  exact h

/-- Transfers 27 to 29 of the second exchange. -/
theorem part48 {c : Dev nD} {α : Type} {Q : α → sProp 𝕄} {R : sProp 𝕄} {v2 : BitVec 32} {k : (PUnit) → Prog (TpuEff nD τ sig (Elt F) Λ₀ .tc) α}
    (h : Run m K c 31 31 30 iprop(send2St m c 30 ∗ R) ⊢ WP c (k ⟨⟩) Q) :
    Run m K c 31 31 27 iprop(send2St m c 27 ∗ R) ⊢ WP c ((app (k0_part48 (F := F)) c v2) >>= k) Q := by
  unfold app
  rw [k0_part48_eq_skeleton]; unfold k0_part48_skel
  simp only [semSignalWord, semWaitWord, Prog.lift, Prog.bind_op, Prog.bind_ret, Prog.pure_eq_ret]
  refine send2 m K 27 (by decide) rfl (k0_dev90_eq c) ?_
  refine send2 m K 28 (by decide) rfl (k0_dev91_eq c) ?_
  refine send2 m K 29 (by decide) rfl (k0_dev92_eq c) ?_
  exact h

/-- The last transfer of the second exchange; waits 0 and 1 for the reduced chunks to arrive. -/
theorem part49 {c : Dev nD} {α : Type} {Q : α → sProp 𝕄} {R : sProp 𝕄} {v2 : BitVec 32} {k : (PUnit) → Prog (TpuEff nD τ sig (Elt F) Λ₀ .tc) α}
    (h : Run m K c 31 31 31 iprop(waitSt m 3 c 2 ∗ send2St m c 31 ∗ R) ⊢ WP c (k ⟨⟩) Q) :
    Run m K c 31 31 30 iprop(send2St m c 30 ∗ waitSt m 3 c 0 ∗ R) ⊢ WP c ((app (k0_part49 (F := F)) c v2) >>= k) Q := by
  unfold app
  rw [k0_part49_eq_skeleton]; unfold k0_part49_skel
  simp only [semSignalWord, semWaitWord, Prog.lift, Prog.bind_op, Prog.bind_ret, Prog.pure_eq_ret]
  refine send2 m K 30 (by decide) rfl (k0_dev93_eq c) ?_
  refine front2 m K ?_
  refine wait m K 3 (.inl rfl) 0 (by decide) rfl rfl ?_
  refine wait m K 3 (.inl rfl) 1 (by decide) rfl rfl ?_
  exact h

/-- Waits 2 to 4 for the reduced chunks to arrive. -/
theorem part50 {c : Dev nD} {α : Type} {Q : α → sProp 𝕄} {R : sProp 𝕄} {v2 : BitVec 32} {k : (PUnit) → Prog (TpuEff nD τ sig (Elt F) Λ₀ .tc) α}
    (h : Run m K c 31 31 31 iprop(waitSt m 3 c 5 ∗ R) ⊢ WP c (k ⟨⟩) Q) :
    Run m K c 31 31 31 iprop(waitSt m 3 c 2 ∗ R) ⊢ WP c ((app (k0_part50 (F := F)) c v2) >>= k) Q := by
  unfold app
  rw [k0_part50_eq_skeleton]; unfold k0_part50_skel
  simp only [semSignalWord, semWaitWord, Prog.lift, Prog.bind_op, Prog.bind_ret, Prog.pure_eq_ret]
  refine wait m K 3 (.inl rfl) 2 (by decide) rfl rfl ?_
  refine wait m K 3 (.inl rfl) 3 (by decide) rfl rfl ?_
  refine wait m K 3 (.inl rfl) 4 (by decide) rfl rfl ?_
  exact h

/-- Waits 5 to 7 for the reduced chunks to arrive. -/
theorem part51 {c : Dev nD} {α : Type} {Q : α → sProp 𝕄} {R : sProp 𝕄} {v2 : BitVec 32} {k : (PUnit) → Prog (TpuEff nD τ sig (Elt F) Λ₀ .tc) α}
    (h : Run m K c 31 31 31 iprop(waitSt m 3 c 8 ∗ R) ⊢ WP c (k ⟨⟩) Q) :
    Run m K c 31 31 31 iprop(waitSt m 3 c 5 ∗ R) ⊢ WP c ((app (k0_part51 (F := F)) c v2) >>= k) Q := by
  unfold app
  rw [k0_part51_eq_skeleton]; unfold k0_part51_skel
  simp only [semSignalWord, semWaitWord, Prog.lift, Prog.bind_op, Prog.bind_ret, Prog.pure_eq_ret]
  refine wait m K 3 (.inl rfl) 5 (by decide) rfl rfl ?_
  refine wait m K 3 (.inl rfl) 6 (by decide) rfl rfl ?_
  refine wait m K 3 (.inl rfl) 7 (by decide) rfl rfl ?_
  exact h

/-- Waits 8 to 10 for the reduced chunks to arrive. -/
theorem part52 {c : Dev nD} {α : Type} {Q : α → sProp 𝕄} {R : sProp 𝕄} {v2 : BitVec 32} {k : (PUnit) → Prog (TpuEff nD τ sig (Elt F) Λ₀ .tc) α}
    (h : Run m K c 31 31 31 iprop(waitSt m 3 c 11 ∗ R) ⊢ WP c (k ⟨⟩) Q) :
    Run m K c 31 31 31 iprop(waitSt m 3 c 8 ∗ R) ⊢ WP c ((app (k0_part52 (F := F)) c v2) >>= k) Q := by
  unfold app
  rw [k0_part52_eq_skeleton]; unfold k0_part52_skel
  simp only [semSignalWord, semWaitWord, Prog.lift, Prog.bind_op, Prog.bind_ret, Prog.pure_eq_ret]
  refine wait m K 3 (.inl rfl) 8 (by decide) rfl rfl ?_
  refine wait m K 3 (.inl rfl) 9 (by decide) rfl rfl ?_
  refine wait m K 3 (.inl rfl) 10 (by decide) rfl rfl ?_
  exact h

/-- Waits 11 to 14 for the reduced chunks to arrive. -/
theorem part53 {c : Dev nD} {α : Type} {Q : α → sProp 𝕄} {R : sProp 𝕄} {v2 : BitVec 32} {k : (BitVec 32) → Prog (TpuEff nD τ sig (Elt F) Λ₀ .tc) α}
    (h : ∀ v, Run m K c 31 31 31 iprop(waitSt m 3 c 15 ∗ R) ⊢ WP c (k v) Q) :
    Run m K c 31 31 31 iprop(waitSt m 3 c 11 ∗ R) ⊢ WP c ((app (k0_part53 (F := F)) c v2) >>= k) Q := by
  unfold app
  rw [k0_part53_eq_skeleton]; unfold k0_part53_skel
  simp only [semSignalWord, semWaitWord, Prog.lift, Prog.bind_op, Prog.bind_ret, Prog.pure_eq_ret]
  refine wait m K 3 (.inl rfl) 11 (by decide) rfl rfl ?_
  refine wait m K 3 (.inl rfl) 12 (by decide) rfl rfl ?_
  refine wait m K 3 (.inl rfl) 13 (by decide) rfl rfl ?_
  refine wait m K 3 (.inl rfl) 14 (by decide) rfl rfl ?_
  exact h _

/-- Waits 15 to 17 for the reduced chunks to arrive. -/
theorem part54 {c : Dev nD} {α : Type} {Q : α → sProp 𝕄} {R : sProp 𝕄} {v2 : BitVec 32} {v1677 : BitVec 32} {k : (Σ' (v1708 : BitVec 32), BitVec 32) → Prog (TpuEff nD τ sig (Elt F) Λ₀ .tc) α}
    (h : ∀ v w, Run m K c 31 31 31 iprop(waitSt m 3 c 18 ∗ R) ⊢ WP c (k ⟨v, w⟩) Q) :
    Run m K c 31 31 31 iprop(waitSt m 3 c 15 ∗ R) ⊢ WP c ((app (k0_part54 (F := F)) c v2 v1677) >>= k) Q := by
  unfold app
  rw [k0_part54_eq_skeleton]; unfold k0_part54_skel
  simp only [semSignalWord, semWaitWord, Prog.lift, Prog.bind_op, Prog.bind_ret, Prog.pure_eq_ret]
  refine wait m K 3 (.inl rfl) 15 (by decide) rfl rfl ?_
  refine wait m K 3 (.inl rfl) 16 (by decide) rfl rfl ?_
  refine wait m K 3 (.inl rfl) 17 (by decide) rfl rfl ?_
  exact h _ _

/-- Waits 18 to 20 for the reduced chunks to arrive. -/
theorem part55 {c : Dev nD} {α : Type} {Q : α → sProp 𝕄} {R : sProp 𝕄} {v2 : BitVec 32} {v1708 : BitVec 32} {c1_i32_1254 : BitVec 32} {k : (PUnit) → Prog (TpuEff nD τ sig (Elt F) Λ₀ .tc) α}
    (h : Run m K c 31 31 31 iprop(waitSt m 3 c 21 ∗ R) ⊢ WP c (k ⟨⟩) Q) :
    Run m K c 31 31 31 iprop(waitSt m 3 c 18 ∗ R) ⊢ WP c ((app (k0_part55 (F := F)) c v2 v1708 c1_i32_1254) >>= k) Q := by
  unfold app
  rw [k0_part55_eq_skeleton]; unfold k0_part55_skel
  simp only [semSignalWord, semWaitWord, Prog.lift, Prog.bind_op, Prog.bind_ret, Prog.pure_eq_ret]
  refine wait m K 3 (.inl rfl) 18 (by decide) rfl rfl ?_
  refine wait m K 3 (.inl rfl) 19 (by decide) rfl rfl ?_
  refine wait m K 3 (.inl rfl) 20 (by decide) rfl rfl ?_
  exact h

/-- Waits 21 to 23 for the reduced chunks to arrive. -/
theorem part56 {c : Dev nD} {α : Type} {Q : α → sProp 𝕄} {R : sProp 𝕄} {v2 : BitVec 32} {k : (PUnit) → Prog (TpuEff nD τ sig (Elt F) Λ₀ .tc) α}
    (h : Run m K c 31 31 31 iprop(waitSt m 3 c 24 ∗ R) ⊢ WP c (k ⟨⟩) Q) :
    Run m K c 31 31 31 iprop(waitSt m 3 c 21 ∗ R) ⊢ WP c ((app (k0_part56 (F := F)) c v2) >>= k) Q := by
  unfold app
  rw [k0_part56_eq_skeleton]; unfold k0_part56_skel
  simp only [semSignalWord, semWaitWord, Prog.lift, Prog.bind_op, Prog.bind_ret, Prog.pure_eq_ret]
  refine wait m K 3 (.inl rfl) 21 (by decide) rfl rfl ?_
  refine wait m K 3 (.inl rfl) 22 (by decide) rfl rfl ?_
  refine wait m K 3 (.inl rfl) 23 (by decide) rfl rfl ?_
  exact h

/-- Waits 24 to 26 for the reduced chunks to arrive. -/
theorem part57 {c : Dev nD} {α : Type} {Q : α → sProp 𝕄} {R : sProp 𝕄} {v2 : BitVec 32} {k : (PUnit) → Prog (TpuEff nD τ sig (Elt F) Λ₀ .tc) α}
    (h : Run m K c 31 31 31 iprop(waitSt m 3 c 27 ∗ R) ⊢ WP c (k ⟨⟩) Q) :
    Run m K c 31 31 31 iprop(waitSt m 3 c 24 ∗ R) ⊢ WP c ((app (k0_part57 (F := F)) c v2) >>= k) Q := by
  unfold app
  rw [k0_part57_eq_skeleton]; unfold k0_part57_skel
  simp only [semSignalWord, semWaitWord, Prog.lift, Prog.bind_op, Prog.bind_ret, Prog.pure_eq_ret]
  refine wait m K 3 (.inl rfl) 24 (by decide) rfl rfl ?_
  refine wait m K 3 (.inl rfl) 25 (by decide) rfl rfl ?_
  refine wait m K 3 (.inl rfl) 26 (by decide) rfl rfl ?_
  exact h

/-- Waits 27 to 29 for the reduced chunks to arrive. -/
theorem part58 {c : Dev nD} {α : Type} {Q : α → sProp 𝕄} {R : sProp 𝕄} {v2 : BitVec 32} {k : (PUnit) → Prog (TpuEff nD τ sig (Elt F) Λ₀ .tc) α}
    (h : Run m K c 31 31 31 iprop(waitSt m 3 c 30 ∗ R) ⊢ WP c (k ⟨⟩) Q) :
    Run m K c 31 31 31 iprop(waitSt m 3 c 27 ∗ R) ⊢ WP c ((app (k0_part58 (F := F)) c v2) >>= k) Q := by
  unfold app
  rw [k0_part58_eq_skeleton]; unfold k0_part58_skel
  simp only [semSignalWord, semWaitWord, Prog.lift, Prog.bind_op, Prog.bind_ret, Prog.pure_eq_ret]
  refine wait m K 3 (.inl rfl) 27 (by decide) rfl rfl ?_
  refine wait m K 3 (.inl rfl) 28 (by decide) rfl rfl ?_
  refine wait m K 3 (.inl rfl) 29 (by decide) rfl rfl ?_
  exact h

/-- From the chunks received to all of them; the rest is left alone. -/
theorem frame59 {A B X D E G R : sProp 𝕄} (h : iprop(A ∗ B) ⊢ iprop(D ∗ E ∗ G)) : iprop(A ∗ B ∗ X ∗ R) ⊢ iprop(D ∗ X ∗ E ∗ G ∗ R) := by
  iintro ⟨HA, HB, HX, HR⟩
  ihave H := h $$ [HA HB]
  · isplitl [HA]; · iexact HA
    iexact HB
  icases H with ⟨KD, KE, KG⟩
  isplitl [KD]; · iexact KD
  isplitl [HX]; · iexact HX
  isplitl [KE]; · iexact KE
  isplitl [KG]; · iexact KG
  iexact HR

/-- The last reduced chunk arrives; row blocks 0 to 4 of the result. -/
theorem part59 {c : Dev nD} {α : Type} {Q : α → sProp 𝕄} {R : sProp 𝕄} {k : (FVec F S24x768 .f32) → Prog (TpuEff nD τ sig (Elt F) Λ₀ .tc) α}
    (h : Run m K c 31 31 31 iprop(GAll m c ∗ OSt m c 5 ∗ toksG m c ∗ atAll 3 c 1 ∗ R) ⊢ WP c (k (k0_pay41 (gathSlot m 5))) Q) :
    Run m K c 31 31 31 iprop(waitSt m 3 c 30 ∗ restG m c ∗ OSt m c 0 ∗ R) ⊢ WP c ((app (k0_part59 (F := F)) c) >>= k) Q := by
  unfold app
  rw [k0_part59_eq_skeleton]; unfold k0_part59_skel
  simp only [semSignalWord, semWaitWord, Prog.lift, Prog.bind_op, Prog.bind_ret, Prog.pure_eq_ret]
  refine wait m K 3 (.inl rfl) 30 (by decide) rfl rfl ?_
  refine turn m K (frame59 (g_whole m c)) ?_
  refine loadG m K 0 (by decide) ?_
  refine step_load_O m K fun _ => ?_
  refine storeO m K 0 (by decide) rfl rfl ?_
  refine loadG m K 1 (by decide) ?_
  refine step_load_O m K fun _ => ?_
  refine storeO m K 1 (by decide) rfl rfl ?_
  refine loadG m K 2 (by decide) ?_
  refine step_load_O m K fun _ => ?_
  refine storeO m K 2 (by decide) rfl rfl ?_
  refine loadG m K 3 (by decide) ?_
  refine step_load_O m K fun _ => ?_
  refine storeO m K 3 (by decide) rfl rfl ?_
  refine loadG m K 4 (by decide) ?_
  refine step_load_O m K fun _ => ?_
  refine storeO m K 4 (by decide) rfl rfl ?_
  refine loadG m K 5 (by decide) ?_
  exact h

/-- Row blocks 5 to 10 of the result. -/
theorem part60 {c : Dev nD} {α : Type} {Q : α → sProp 𝕄} {R : sProp 𝕄} {k : (FVec F S24x768 .f32) → Prog (TpuEff nD τ sig (Elt F) Λ₀ .tc) α}
    (h : Run m K c 31 31 31 iprop(GAll m c ∗ OSt m c 11 ∗ R) ⊢ WP c (k (k0_pay41 (gathSlot m 11))) Q) :
    Run m K c 31 31 31 iprop(GAll m c ∗ OSt m c 5 ∗ R) ⊢ WP c ((app (k0_part60 (F := F)) (k0_pay41 (gathSlot m 5))) >>= k) Q := by
  unfold app
  rw [k0_part60_eq_skeleton]; unfold k0_part60_skel
  simp only [semSignalWord, semWaitWord, Prog.lift, Prog.bind_op, Prog.bind_ret, Prog.pure_eq_ret]
  refine step_load_O m K fun _ => ?_
  refine storeO m K 5 (by decide) rfl rfl ?_
  refine loadG m K 6 (by decide) ?_
  refine step_load_O m K fun _ => ?_
  refine storeO m K 6 (by decide) rfl rfl ?_
  refine loadG m K 7 (by decide) ?_
  refine step_load_O m K fun _ => ?_
  refine storeO m K 7 (by decide) rfl rfl ?_
  refine loadG m K 8 (by decide) ?_
  refine step_load_O m K fun _ => ?_
  refine storeO m K 8 (by decide) rfl rfl ?_
  refine loadG m K 9 (by decide) ?_
  refine step_load_O m K fun _ => ?_
  refine storeO m K 9 (by decide) rfl rfl ?_
  refine loadG m K 10 (by decide) ?_
  refine step_load_O m K fun _ => ?_
  refine storeO m K 10 (by decide) rfl rfl ?_
  refine loadG m K 11 (by decide) ?_
  exact h

/-- Row blocks 11 to 16 of the result. -/
theorem part61 {c : Dev nD} {α : Type} {Q : α → sProp 𝕄} {R : sProp 𝕄} {k : (FVec F S24x768 .f32) → Prog (TpuEff nD τ sig (Elt F) Λ₀ .tc) α}
    (h : Run m K c 31 31 31 iprop(GAll m c ∗ OSt m c 17 ∗ R) ⊢ WP c (k (k0_pay41 (gathSlot m 17))) Q) :
    Run m K c 31 31 31 iprop(GAll m c ∗ OSt m c 11 ∗ R) ⊢ WP c ((app (k0_part61 (F := F)) (k0_pay41 (gathSlot m 11))) >>= k) Q := by
  unfold app
  rw [k0_part61_eq_skeleton]; unfold k0_part61_skel
  simp only [semSignalWord, semWaitWord, Prog.lift, Prog.bind_op, Prog.bind_ret, Prog.pure_eq_ret]
  refine step_load_O m K fun _ => ?_
  refine storeO m K 11 (by decide) rfl rfl ?_
  refine loadG m K 12 (by decide) ?_
  refine step_load_O m K fun _ => ?_
  refine storeO m K 12 (by decide) rfl rfl ?_
  refine loadG m K 13 (by decide) ?_
  refine step_load_O m K fun _ => ?_
  refine storeO m K 13 (by decide) rfl rfl ?_
  refine loadG m K 14 (by decide) ?_
  refine step_load_O m K fun _ => ?_
  refine storeO m K 14 (by decide) rfl rfl ?_
  refine loadG m K 15 (by decide) ?_
  refine step_load_O m K fun _ => ?_
  refine storeO m K 15 (by decide) rfl rfl ?_
  refine loadG m K 16 (by decide) ?_
  refine step_load_O m K fun _ => ?_
  refine storeO m K 16 (by decide) rfl rfl ?_
  refine loadG m K 17 (by decide) ?_
  exact h

/-- Row blocks 17 to 22 of the result. -/
theorem part62 {c : Dev nD} {α : Type} {Q : α → sProp 𝕄} {R : sProp 𝕄} {k : (FVec F S24x768 .f32) → Prog (TpuEff nD τ sig (Elt F) Λ₀ .tc) α}
    (h : Run m K c 31 31 31 iprop(GAll m c ∗ OSt m c 23 ∗ R) ⊢ WP c (k (k0_pay41 (gathSlot m 23))) Q) :
    Run m K c 31 31 31 iprop(GAll m c ∗ OSt m c 17 ∗ R) ⊢ WP c ((app (k0_part62 (F := F)) (k0_pay41 (gathSlot m 17))) >>= k) Q := by
  unfold app
  rw [k0_part62_eq_skeleton]; unfold k0_part62_skel
  simp only [semSignalWord, semWaitWord, Prog.lift, Prog.bind_op, Prog.bind_ret, Prog.pure_eq_ret]
  refine step_load_O m K fun _ => ?_
  refine storeO m K 17 (by decide) rfl rfl ?_
  refine loadG m K 18 (by decide) ?_
  refine step_load_O m K fun _ => ?_
  refine storeO m K 18 (by decide) rfl rfl ?_
  refine loadG m K 19 (by decide) ?_
  refine step_load_O m K fun _ => ?_
  refine storeO m K 19 (by decide) rfl rfl ?_
  refine loadG m K 20 (by decide) ?_
  refine step_load_O m K fun _ => ?_
  refine storeO m K 20 (by decide) rfl rfl ?_
  refine loadG m K 21 (by decide) ?_
  refine step_load_O m K fun _ => ?_
  refine storeO m K 21 (by decide) rfl rfl ?_
  refine loadG m K 22 (by decide) ?_
  refine step_load_O m K fun _ => ?_
  refine storeO m K 22 (by decide) rfl rfl ?_
  refine loadG m K 23 (by decide) ?_
  exact h

/-- Row blocks 23 to 28 of the result. -/
theorem part63 {c : Dev nD} {α : Type} {Q : α → sProp 𝕄} {R : sProp 𝕄} {k : (FVec F S24x768 .f32) → Prog (TpuEff nD τ sig (Elt F) Λ₀ .tc) α}
    (h : Run m K c 31 31 31 iprop(GAll m c ∗ OSt m c 29 ∗ R) ⊢ WP c (k (k0_pay41 (gathSlot m 29))) Q) :
    Run m K c 31 31 31 iprop(GAll m c ∗ OSt m c 23 ∗ R) ⊢ WP c ((app (k0_part63 (F := F)) (k0_pay41 (gathSlot m 23))) >>= k) Q := by
  unfold app
  rw [k0_part63_eq_skeleton]; unfold k0_part63_skel
  simp only [semSignalWord, semWaitWord, Prog.lift, Prog.bind_op, Prog.bind_ret, Prog.pure_eq_ret]
  refine step_load_O m K fun _ => ?_
  refine storeO m K 23 (by decide) rfl rfl ?_
  refine loadG m K 24 (by decide) ?_
  refine step_load_O m K fun _ => ?_
  refine storeO m K 24 (by decide) rfl rfl ?_
  refine loadG m K 25 (by decide) ?_
  refine step_load_O m K fun _ => ?_
  refine storeO m K 25 (by decide) rfl rfl ?_
  refine loadG m K 26 (by decide) ?_
  refine step_load_O m K fun _ => ?_
  refine storeO m K 26 (by decide) rfl rfl ?_
  refine loadG m K 27 (by decide) ?_
  refine step_load_O m K fun _ => ?_
  refine storeO m K 27 (by decide) rfl rfl ?_
  refine loadG m K 28 (by decide) ?_
  refine step_load_O m K fun _ => ?_
  refine storeO m K 28 (by decide) rfl rfl ?_
  refine loadG m K 29 (by decide) ?_
  exact h

/-- The last row blocks of the result; waits 0 to 2 for the second exchange's transfers to be read out. -/
theorem part64 {c : Dev nD} {α : Type} {Q : α → sProp 𝕄} {R : sProp 𝕄} {k : (PUnit) → Prog (TpuEff nD τ sig (Elt F) Λ₀ .tc) α}
    (h : Run m K c 31 31 31 iprop(waitSt m 2 c 3 ∗ GAll m c ∗ OSt m c 32 ∗ R) ⊢ WP c (k ⟨⟩) Q) :
    Run m K c 31 31 31 iprop(GAll m c ∗ OSt m c 29 ∗ waitSt m 2 c 0 ∗ R) ⊢ WP c ((app (k0_part64 (F := F)) c (k0_pay41 (gathSlot m 29))) >>= k) Q := by
  unfold app
  rw [k0_part64_eq_skeleton]; unfold k0_part64_skel
  simp only [semSignalWord, semWaitWord, Prog.lift, Prog.bind_op, Prog.bind_ret, Prog.pure_eq_ret]
  refine step_load_O m K fun _ => ?_
  refine storeO m K 29 (by decide) rfl rfl ?_
  refine loadG m K 30 (by decide) ?_
  refine step_load_O m K fun _ => ?_
  refine storeO m K 30 (by decide) rfl rfl ?_
  refine loadG m K 31 (by decide) ?_
  refine step_load_O m K fun _ => ?_
  refine storeO m K 31 (by decide) rfl rfl ?_
  refine front3 m K ?_
  refine wait m K 2 (.inl rfl) 0 (by decide) rfl rfl ?_
  refine wait m K 2 (.inl rfl) 1 (by decide) rfl rfl ?_
  refine wait m K 2 (.inl rfl) 2 (by decide) rfl rfl ?_
  exact h

/-- Waits 3 to 7 for the second exchange's transfers to be read out. -/
theorem part65 {c : Dev nD} {α : Type} {Q : α → sProp 𝕄} {R : sProp 𝕄} {k : (PUnit) → Prog (TpuEff nD τ sig (Elt F) Λ₀ .tc) α}
    (h : Run m K c 31 31 31 iprop(waitSt m 2 c 8 ∗ R) ⊢ WP c (k ⟨⟩) Q) :
    Run m K c 31 31 31 iprop(waitSt m 2 c 3 ∗ R) ⊢ WP c ((app (k0_part65 (F := F)) c) >>= k) Q := by
  unfold app
  rw [k0_part65_eq_skeleton]; unfold k0_part65_skel
  simp only [semSignalWord, semWaitWord, Prog.lift, Prog.bind_op, Prog.bind_ret, Prog.pure_eq_ret]
  refine wait m K 2 (.inl rfl) 3 (by decide) rfl rfl ?_
  refine wait m K 2 (.inl rfl) 4 (by decide) rfl rfl ?_
  refine wait m K 2 (.inl rfl) 5 (by decide) rfl rfl ?_
  refine wait m K 2 (.inl rfl) 6 (by decide) rfl rfl ?_
  refine wait m K 2 (.inl rfl) 7 (by decide) rfl rfl ?_
  exact h

/-- Waits 8 to 12 for the second exchange's transfers to be read out. -/
theorem part66 {c : Dev nD} {α : Type} {Q : α → sProp 𝕄} {R : sProp 𝕄} {k : (PUnit) → Prog (TpuEff nD τ sig (Elt F) Λ₀ .tc) α}
    (h : Run m K c 31 31 31 iprop(waitSt m 2 c 13 ∗ R) ⊢ WP c (k ⟨⟩) Q) :
    Run m K c 31 31 31 iprop(waitSt m 2 c 8 ∗ R) ⊢ WP c ((app (k0_part66 (F := F)) c) >>= k) Q := by
  unfold app
  rw [k0_part66_eq_skeleton]; unfold k0_part66_skel
  simp only [semSignalWord, semWaitWord, Prog.lift, Prog.bind_op, Prog.bind_ret, Prog.pure_eq_ret]
  refine wait m K 2 (.inl rfl) 8 (by decide) rfl rfl ?_
  refine wait m K 2 (.inl rfl) 9 (by decide) rfl rfl ?_
  refine wait m K 2 (.inl rfl) 10 (by decide) rfl rfl ?_
  refine wait m K 2 (.inl rfl) 11 (by decide) rfl rfl ?_
  refine wait m K 2 (.inl rfl) 12 (by decide) rfl rfl ?_
  exact h

/-- Waits 13 to 17 for the second exchange's transfers to be read out. -/
theorem part67 {c : Dev nD} {α : Type} {Q : α → sProp 𝕄} {R : sProp 𝕄} {k : (PUnit) → Prog (TpuEff nD τ sig (Elt F) Λ₀ .tc) α}
    (h : Run m K c 31 31 31 iprop(waitSt m 2 c 18 ∗ R) ⊢ WP c (k ⟨⟩) Q) :
    Run m K c 31 31 31 iprop(waitSt m 2 c 13 ∗ R) ⊢ WP c ((app (k0_part67 (F := F)) c) >>= k) Q := by
  unfold app
  rw [k0_part67_eq_skeleton]; unfold k0_part67_skel
  simp only [semSignalWord, semWaitWord, Prog.lift, Prog.bind_op, Prog.bind_ret, Prog.pure_eq_ret]
  refine wait m K 2 (.inl rfl) 13 (by decide) rfl rfl ?_
  refine wait m K 2 (.inl rfl) 14 (by decide) rfl rfl ?_
  refine wait m K 2 (.inl rfl) 15 (by decide) rfl rfl ?_
  refine wait m K 2 (.inl rfl) 16 (by decide) rfl rfl ?_
  refine wait m K 2 (.inl rfl) 17 (by decide) rfl rfl ?_
  exact h

/-- Waits 18 to 22 for the second exchange's transfers to be read out. -/
theorem part68 {c : Dev nD} {α : Type} {Q : α → sProp 𝕄} {R : sProp 𝕄} {k : (PUnit) → Prog (TpuEff nD τ sig (Elt F) Λ₀ .tc) α}
    (h : Run m K c 31 31 31 iprop(waitSt m 2 c 23 ∗ R) ⊢ WP c (k ⟨⟩) Q) :
    Run m K c 31 31 31 iprop(waitSt m 2 c 18 ∗ R) ⊢ WP c ((app (k0_part68 (F := F)) c) >>= k) Q := by
  unfold app
  rw [k0_part68_eq_skeleton]; unfold k0_part68_skel
  simp only [semSignalWord, semWaitWord, Prog.lift, Prog.bind_op, Prog.bind_ret, Prog.pure_eq_ret]
  refine wait m K 2 (.inl rfl) 18 (by decide) rfl rfl ?_
  refine wait m K 2 (.inl rfl) 19 (by decide) rfl rfl ?_
  refine wait m K 2 (.inl rfl) 20 (by decide) rfl rfl ?_
  refine wait m K 2 (.inl rfl) 21 (by decide) rfl rfl ?_
  refine wait m K 2 (.inl rfl) 22 (by decide) rfl rfl ?_
  exact h

/-- Waits 23 to 27 for the second exchange's transfers to be read out. -/
theorem part69 {c : Dev nD} {α : Type} {Q : α → sProp 𝕄} {R : sProp 𝕄} {k : (PUnit) → Prog (TpuEff nD τ sig (Elt F) Λ₀ .tc) α}
    (h : Run m K c 31 31 31 iprop(waitSt m 2 c 28 ∗ R) ⊢ WP c (k ⟨⟩) Q) :
    Run m K c 31 31 31 iprop(waitSt m 2 c 23 ∗ R) ⊢ WP c ((app (k0_part69 (F := F)) c) >>= k) Q := by
  unfold app
  rw [k0_part69_eq_skeleton]; unfold k0_part69_skel
  simp only [semSignalWord, semWaitWord, Prog.lift, Prog.bind_op, Prog.bind_ret, Prog.pure_eq_ret]
  refine wait m K 2 (.inl rfl) 23 (by decide) rfl rfl ?_
  refine wait m K 2 (.inl rfl) 24 (by decide) rfl rfl ?_
  refine wait m K 2 (.inl rfl) 25 (by decide) rfl rfl ?_
  refine wait m K 2 (.inl rfl) 26 (by decide) rfl rfl ?_
  refine wait m K 2 (.inl rfl) 27 (by decide) rfl rfl ?_
  exact h

end Cert.KernelIdeal.Mlp

end
-- ==== Proof.KernelIdeal.Body.lean ====
/-
# The body

The parts put together: from the state in which the launch leaves a device to the one in which its body ends.
-/
module

public import proofs.«01_k».proof.Proof.KernelIdeal.PartsA
public import proofs.«01_k».proof.Proof.KernelIdeal.PartsB
public import proofs.«01_k».proof.Proof.KernelIdeal.PartsC

@[expose] public section

set_option maxRecDepth 20000

noncomputable section

namespace Cert.KernelIdeal.Mlp

open Cert.KernelIdeal Cert.KernelIdeal.Gen Cert.Peers Cert.Geometry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-- Before the first exchange. -/
theorem turn1 (c : Dev nD) (R : sProp 𝕄) :
    iprop(PSt m c 31 ∗ ins m c ∗ barA (F := F) c ∗ sigSt (F := F) c 31 ∗ toks1 (F := F) c ∗ R)
      ⊢ iprop(PSt m c 31 ∗ barA (F := F) c ∗ toks1 (F := F) c ∗ ins m c ∗ R) := by
  iintro ⟨H1, H2, H3, -, H5, HR⟩
  iframe H1 H3 H5 H2 HR

/-- Before the own chunk is copied. -/
theorem turn2 (c : Dev nD) (R : sProp 𝕄) :
    iprop(send1St m c 2 ∗ pSlot c c (partB m c) ∗ barPos (F := F) c ∗ peersG (F := F) c ∗ ins m c ∗ (∃ f, cSlot (F := F) c c f) ∗ waitSt m 1 c 0 ∗ R)
      ⊢ iprop(send1St m c 2 ∗ own m c ∗ waitSt m 1 c 0 ∗ barPos (F := F) c ∗ peersG (F := F) c ∗ ins m c ∗ R) := by
  unfold own
  iintro ⟨H1, H2, H3, H4, H5, H6, H7, HR⟩
  iframe H1 H2 H6 H7 H3 H4 H5 HR

/-- Before the waits for the chunks. -/
theorem turn3 (c : Dev nD) (R : sProp 𝕄) :
    iprop(own m c ∗ send1St m c 31 ∗ waitSt m 1 c 0 ∗ R)
      ⊢ iprop(own m c ∗ waitSt m 1 c 0 ∗ send1St m c 31 ∗ R) := by
  iintro ⟨H1, H2, H3, HR⟩
  iframe H1 H3 H2 HR

/-- All chunks have arrived. -/
theorem turn4 (c : Dev nD) (R : sProp 𝕄) :
    iprop(waitSt m 1 c 31 ∗ owned m c ∗ send1St m c 31 ∗ barPos (F := F) c ∗ peersG (F := F) c ∗ ins m c ∗ atAll (F := F) 0 c 0 ∗ ownG (F := F) c ∗ toks2 (F := F) c ∗ R)
      ⊢ iprop(waitSt m 0 c 0 ∗ CAll m c ∗ ownG (F := F) c ∗ peersG (F := F) c ∗ toks2 (F := F) c ∗ pSlot c c (partB m c) ∗ atAll (F := F) 1 c 1 ∗ barPos (F := F) c ∗ ins m c ∗ R) := by
  unfold owned
  iintro ⟨H1, ⟨H2, H2c⟩, H3, H4, H5, H6, H7, H8, H9, HR⟩
  ihave HC := (c_whole m c) $$ [H1 H2c]
  · iframe H1 H2c
  icases HC with ⟨HC, HA⟩
  ihave HW := (wait0_start m c) $$ [H3 H7]
  · iframe H3 H7
  iframe HW HC H8 H5 H9 H2 HA H4 H6 HR

/-- Before the second exchange. -/
theorem turn5 (c : Dev nD) (R : sProp 𝕄) :
    iprop(send2St m c 1 ∗ restG m c ∗ CAll m c ∗ waitSt m 0 c 31 ∗ pSlot c c (partB m c) ∗ atAll (F := F) 1 c 1 ∗ barPos (F := F) c ∗ ins m c ∗ waitSt m 3 c 0 ∗ OSt m c 0 ∗ R)
      ⊢ iprop(send2St m c 1 ∗ waitSt m 3 c 0 ∗ restG m c ∗ OSt m c 0 ∗ (pLoc c ↦{fullShare} partB m c) ∗ atAll (F := F) 0 c 1 ∗ CAll m c ∗ atAll (F := F) 1 c 1 ∗ barPos (F := F) c ∗ ins m c ∗ R) := by
  iintro ⟨H1, H2, H3, H4, H5, H6, H7, H8, H9, H10, HR⟩
  ihave HP := (p_end m c) $$ [H4 H5]
  · iframe H4 H5
  icases HP with ⟨HP, HA⟩
  iframe H1 H9 H2 H10 HP HA H3 H6 H7 H8 HR

/-- Before the result. -/
theorem turn6 (c : Dev nD) (R : sProp 𝕄) :
    iprop(waitSt m 3 c 30 ∗ send2St m c 31 ∗ restG m c ∗ OSt m c 0 ∗ (pLoc c ↦{fullShare} partB m c) ∗ atAll (F := F) 0 c 1 ∗ CAll m c ∗ atAll (F := F) 1 c 1 ∗ barPos (F := F) c ∗ ins m c ∗ atAll (F := F) 2 c 0 ∗ R)
      ⊢ iprop(waitSt m 3 c 30 ∗ restG m c ∗ OSt m c 0 ∗ waitSt m 2 c 0 ∗ (pLoc c ↦{fullShare} partB m c) ∗ atAll (F := F) 0 c 1 ∗ CAll m c ∗ atAll (F := F) 1 c 1 ∗ barPos (F := F) c ∗ ins m c ∗ R) := by
  iintro ⟨H1, H2, H3, H4, H5, H6, H7, H8, H9, H10, H11, HR⟩
  ihave HW := (wait2_start m c) $$ [H2 H11]
  · iframe H2 H11
  iframe H1 H3 H4 HW H5 H6 H7 H8 H9 H10 HR

/-- Before the last waits. -/
theorem turn7 (c : Dev nD) (R : sProp 𝕄) :
    iprop(GAll m c ∗ OSt m c 29 ∗ toksG m c ∗ atAll (F := F) 3 c 1 ∗ waitSt m 2 c 0 ∗ R)
      ⊢ iprop(GAll m c ∗ OSt m c 29 ∗ waitSt m 2 c 0 ∗ toksG m c ∗ atAll (F := F) 3 c 1 ∗ R) := by
  iintro ⟨H1, H2, H3, H4, H5, HR⟩
  iframe H1 H2 H5 H3 H4 HR

/-- The end. -/
theorem turn8 (c : Dev nD) (R : sProp 𝕄) :
    iprop(waitSt m 2 c 31 ∗ GAll m c ∗ OSt m c 32 ∗ toksG m c ∗ atAll (F := F) 3 c 1 ∗ (pLoc c ↦{fullShare} partB m c) ∗ atAll (F := F) 0 c 1 ∗ CAll m c ∗ atAll (F := F) 1 c 1 ∗ barPos (F := F) c ∗ ins m c ∗ R)
      ⊢ iprop((oLoc c ↦{fullShare} outB m) ∗ (gLoc c ↦{fullShare} gathB m) ∗ atAll (F := F) 2 c 1 ∗ atAll (F := F) 3 c 1 ∗ (pLoc c ↦{fullShare} partB m c) ∗ atAll (F := F) 0 c 1 ∗ CAll m c ∗ atAll (F := F) 1 c 1 ∗ barPos (F := F) c ∗ ins m c ∗ R) := by
  iintro ⟨H1, H2, H3, H4, H5, H6, H7, H8, H9, H10, H11, HR⟩
  ihave HG := (g_end m c) $$ [H1 H2 H4]
  · iframe H1 H2 H4
  icases HG with ⟨HG, HA⟩
  ihave HO := (o_end m c) $$ H3
  iframe HO HG HA H5 H6 H7 H8 H9 H10 H11 HR

/-- The first 60 parts: up to row block 10 of the result. -/
theorem body70 {c : Dev nD} {Q : (Σ' (d0 : Dev nD), FVec F S24x768 .f32) → sProp 𝕄} {R : sProp 𝕄}
    (h : Run m K c 31 31 31 iprop(GAll m c ∗ OSt m c 11 ∗ toksG m c ∗ atAll (F := F) 3 c 1 ∗ waitSt m 2 c 0 ∗ (pLoc c ↦{fullShare} partB m c) ∗ atAll (F := F) 0 c 1 ∗ CAll m c ∗ atAll (F := F) 1 c 1 ∗ barPos (F := F) c ∗ ins m c ∗ R) ⊢ WP c (pure ⟨c, k0_pay41 (gathSlot m 11)⟩) Q) :
    Run m K c 0 0 0 iprop(sigSt (F := F) c 0 ∗ barB (F := F) c ∗ ins m c ∗ PSt m c 0 ∗ toks1 (F := F) c ∗ (∃ f, cSlot (F := F) c c f) ∗ waitSt m 1 c 0 ∗ atAll (F := F) 0 c 0 ∗ ownG (F := F) c ∗ toks2 (F := F) c ∗ waitSt m 3 c 0 ∗ OSt m c 0 ∗ atAll (F := F) 2 c 0 ∗ R) ⊢ WP c (app (k0_part70 (F := F))) Q := by
  unfold app
  rw [k0_part70_eq_skeleton]; unfold k0_part70_skel
  refine part1 m K fun _ _ _ => ?_
  refine part2 m K fun _ _ => ?_
  refine part3 m K fun _ _ => ?_
  refine part4 m K fun _ _ => ?_
  refine part5 m K fun _ _ => ?_
  refine part6 m K fun _ => ?_
  refine part7 m K ?_
  refine part8 m K fun _ => ?_
  refine part9 m K ?_
  refine part10 m K fun _ => ?_
  refine turn m K (turn1 m c _) ?_
  refine part11 m K ?_
  refine turn m K (turn2 m c _) ?_
  refine part12 m K ?_
  refine part13 m K ?_
  refine part14 m K fun _ => ?_
  refine part15 m K fun _ _ => ?_
  refine part16 m K ?_
  refine part17 m K ?_
  refine part18 m K ?_
  refine part19 m K ?_
  refine part20 m K ?_
  refine part21 m K ?_
  refine turn m K (turn3 m c _) ?_
  refine part22 m K ?_
  refine part23 m K fun _ => ?_
  refine part24 m K fun _ => ?_
  refine part25 m K fun _ _ => ?_
  refine part26 m K ?_
  refine part27 m K ?_
  refine part28 m K ?_
  refine part29 m K ?_
  refine part30 m K fun _ _ => ?_
  refine part31 m K ?_
  refine turn m K (turn4 m c _) ?_
  refine part32 m K ?_
  refine part33 m K ?_
  refine part34 m K ?_
  refine part35 m K ?_
  refine part36 m K ?_
  refine part37 m K ?_
  refine part38 m K ?_
  refine turn m K (turn5 m c _) ?_
  refine part39 m K ?_
  refine part40 m K ?_
  refine part41 m K ?_
  refine part42 m K fun _ _ => ?_
  refine part43 m K fun _ => ?_
  refine part44 m K ?_
  refine part45 m K ?_
  refine part46 m K ?_
  refine part47 m K ?_
  refine part48 m K ?_
  refine part49 m K ?_
  refine part50 m K ?_
  refine part51 m K ?_
  refine part52 m K ?_
  refine part53 m K fun _ => ?_
  refine part54 m K fun _ _ => ?_
  refine part55 m K ?_
  refine part56 m K ?_
  refine part57 m K ?_
  refine part58 m K ?_
  refine turn m K (turn6 m c _) ?_
  refine part59 m K ?_
  refine part60 m K ?_
  exact h

/-- The whole body. -/
theorem body_run {c : Dev nD} {Q : PUnit → sProp 𝕄} {R : sProp 𝕄}
    (h : Run m K c 31 31 31 iprop((oLoc c ↦{fullShare} outB m) ∗ (gLoc c ↦{fullShare} gathB m) ∗ atAll (F := F) 2 c 1 ∗ atAll (F := F) 3 c 1 ∗ (pLoc c ↦{fullShare} partB m c) ∗ atAll (F := F) 0 c 1 ∗ CAll m c ∗ atAll (F := F) 1 c 1 ∗ barPos (F := F) c ∗ ins m c ∗ R) ⊢ WP c (pure ⟨⟩) Q) :
    Run m K c 0 0 0 iprop(sigSt (F := F) c 0 ∗ barB (F := F) c ∗ ins m c ∗ PSt m c 0 ∗ toks1 (F := F) c ∗ (∃ f, cSlot (F := F) c c f) ∗ waitSt m 1 c 0 ∗ atAll (F := F) 0 c 0 ∗ ownG (F := F) c ∗ toks2 (F := F) c ∗ waitSt m 3 c 0 ∗ OSt m c 0 ∗ atAll (F := F) 2 c 0 ∗ R) ⊢ WP c (app (cc0_body (F := F))) Q := by
  unfold app
  rw [cc0_body_eq_skeleton]; unfold cc0_body_skel
  rw [WP, wp_bind]
  refine body70 m K ?_
  rw [Prog.pure_eq_ret, WP, wp_ret]
  refine Entails.trans ?_ fupd_intro
  refine part61 m K ?_
  refine part62 m K ?_
  refine part63 m K ?_
  refine turn m K (turn7 m c _) ?_
  refine part64 m K ?_
  refine part65 m K ?_
  refine part66 m K ?_
  refine part67 m K ?_
  refine part68 m K ?_
  refine part69 m K ?_
  simp only [Prog.lift, Prog.bind_op, Prog.bind_ret, Prog.pure_eq_ret]
  refine wait m K 2 (.inl rfl) 28 (by decide) rfl rfl ?_
  refine wait m K 2 (.inl rfl) 29 (by decide) rfl rfl ?_
  refine wait m K 2 (.inl rfl) 30 (by decide) rfl rfl ?_
  refine turn m K (turn8 m c _) ?_
  exact h

end Cert.KernelIdeal.Mlp

end
-- ==== Proof.KernelIdeal.Sound.lean ====
/-
# The body against what the launch gives and takes back

`Φ₀`: what a device holds when its body starts, beside the staged windows; `Φ₁`: what it holds at the end, every
semaphore it owns at zero. `body_obligation`: the body leads from the one to the other and stores `outB`.
-/
module

public import proofs.«01_k».proof.Proof.KernelIdeal.Body

@[expose] public section

set_option maxRecDepth 20000

noncomputable section

namespace Cert.KernelIdeal.Mlp

open Cert.KernelIdeal Cert.KernelIdeal.Gen Cert.Peers Cert.Geometry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellsWaits Prefetch)

variable {F : FTy → Type} [FloatOps F]

local notation "𝕄" => MT nD τ sig Unit (Elt F) ℕ UU ℕ

variable (m : (ℓ : Loc nD τ sig) → Buf (Elt F) ℓ) (K : Dev nD × CIx → ℕ)

/-! ## The start -/

/-- The position at the cells of the own index, which nobody pays. -/
def ownPos (c : Dev nD) : sProp 𝕄 := bigSep Finset.univ fun a : Fin 4 => atPos ER (dmaCell a c c) 0 ∅ 0

/-- The cells' invariants and that each is at round 0. -/
def records : sProp 𝕄 :=
  iprop((bigSep Finset.univ fun p : Dev nD × CIx => cellInv ER (Rd m) (K p) (cellAt p.1 p.2))
    ∗ (bigSep Finset.univ fun p : Dev nD × CIx => reached ER (cellAt p.1 p.2) 0))

instance records_persistent : Persistent (records m K) := by unfold records; infer_instance

/-- A device's positions at its own cells. -/
def positions (c : Dev nD) : sProp 𝕄 :=
  iprop(atPos ER (barCell c) 0 ∅ 0 ∗ ownPos (F := F) c ∗ atAll 0 c 0 ∗ atAll 1 c 0 ∗ atAll 2 c 0 ∗ atAll 3 c 0)
/-- The duties a device pays. -/
def payToks (c : Dev nD) : sProp 𝕄 := iprop(toksB (F := F) c ∗ toks1 c ∗ toks2 c)

/-- What the launch's global step gives a device. -/
def deal (c : Dev nD) : sProp 𝕄 := iprop(∃ K, records m K ∗ positions c ∗ payToks c)

def start (c : Dev nD) : sProp 𝕄 :=
  iprop(deal m c ∗ (cred (tallyAt (barCell c) () 31) ∗ credAll 1 c ∗ credAll 3 c) ∗ levs)

/-- The three scratch buffers at any contents. -/
def scratch (c : Dev nD) : sProp 𝕄 :=
  iprop((∃ f : Buf (Elt F) (pLoc c), pLoc c ↦{fullShare} f) ∗ (∃ f : Buf (Elt F) (cLoc c), cLoc c ↦{fullShare} f) ∗ ∃ f : Buf (Elt F) (gLoc c), gLoc c ↦{fullShare} f)

def Φ₀ (c : Dev nD) : sProp 𝕄 := iprop(start m c ∗ scratch c)
/-- At the end: the scratch buffers, and every semaphore at zero. -/
def Φ₁ (c : Dev nD) : sProp 𝕄 :=
  iprop(scratch (F := F) c ∗ (bigSep Finset.univ fun p : Fin 4 × Fin 32 => semVal (dmaCell p.1 c p.2) 0) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wgstg m c
    | ⟨2, _⟩ => wustg m c
    | ⟨3, _⟩ => wdstg m c
    | ⟨4, _⟩ => outB m
  Φ t := match t with
    | ⟨0, _⟩ => Φ₀ m c
    | ⟨_ + 1, _⟩ => Φ₁ c
  q _ := fullShare
  owed t := match t with
    | ⟨0, _⟩ => owed c 0 0 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The received chunks' buffer is its slots, -/
theorem c_any (c : Dev nD) (f : Buf (Elt F) (cLoc c)) : (cLoc c ↦{fullShare} f : sProp 𝕄)
    = iprop(cSlot c c f ∗ bigSep Finset.univ fun r : Fin 31 => cSlot c (peer c r) f) :=
  (Ring.pointsTo_blocks (ℓ := cLoc c) slot slot_disjoint slot_cover f).trans (bigSep_peers c fun s => cSlot c s f)
/-- and the reduced chunks'. -/
theorem g_any (c : Dev nD) (f : Buf (Elt F) (gLoc c)) : (gLoc c ↦{fullShare} f : sProp 𝕄)
    = iprop(gSlot c c f ∗ bigSep Finset.univ fun r : Fin 31 => gSlot c (peer c r) f) :=
  (Ring.pointsTo_blocks (ℓ := gLoc c) slot slot_disjoint slot_cover f).trans (bigSep_peers c fun s => gSlot c s f)

theorem sig_one (c : Dev nD) (r : Fin 31) (f : Buf (Elt F) (cLoc c)) (g : Buf (Elt F) (gLoc c)) :
    iprop(dutyTok ER (barCell (peer c r)) 0 c ∗ cSlot c (peer c r) f ∗ gSlot c (peer c r) g) ⊢ sigB (F := F) c r := by
  unfold sigB
  iintro ⟨H1, H2, H3⟩
  isplitl [H1]; · iexact H1
  isplitl [H2]; · iexists f; iexact H2
  iexists g; iexact H3
/-- The signals can start. -/
theorem sig_start (c : Dev nD) (f : Buf (Elt F) (cLoc c)) (g : Buf (Elt F) (gLoc c)) :
    iprop(toksB (F := F) c ∗ (bigSep Finset.univ fun r : Fin 31 => cSlot c (peer c r) f) ∗ bigSep Finset.univ fun r : Fin 31 => gSlot c (peer c r) g)
      ⊢ sigSt (F := F) c 0 := by
  unfold sigSt toksB
  rw [St_zero, ← bigSep_sep', ← bigSep_sep']
  exact bigSep_mono fun r _ => sig_one c r f g

/-- Nothing is stored yet in the partial products -/
theorem PSt_start (c : Dev nD) (f : Buf (Elt F) (pLoc c)) : (pLoc c ↦{fullShare} f) ⊢ PSt m c 0 := by
  unfold PSt
  iintro H
  iexists f
  isplitr; · ipureintro; exact fun i hi => absurd hi (Nat.not_lt_zero _)
  iexact H
/-- or in the result. -/
theorem OSt_start (c : Dev nD) (f : Buf (Elt F) (oLoc c)) : (oLoc c ↦{fullShare} f) ⊢ OSt m c 0 := by
  unfold OSt
  iintro H
  iexists f
  isplitr; · ipureintro; exact fun i hi => absurd hi (Nat.not_lt_zero _)
  iexact H

/-- The held things as the body wants them. -/
theorem arrange (c : Dev nD) (fp : Buf (Elt F) (pLoc c)) (fc : Buf (Elt F) (cLoc c)) (fg : Buf (Elt F) (gLoc c)) (fo : Buf (Elt F) (oLoc c)) :
    iprop(positions (F := F) c ∗ payToks (F := F) c ∗ (cred (tallyAt (barCell c) () 31) ∗ credAll 1 c ∗ credAll 3 c)
        ∗ (pLoc c ↦{fullShare} fp) ∗ (cLoc c ↦{fullShare} fc) ∗ (gLoc c ↦{fullShare} fg) ∗ (oLoc c ↦{fullShare} fo) ∗ ins m c)
      ⊢ iprop(sigSt (F := F) c 0 ∗ barB (F := F) c ∗ ins m c ∗ PSt m c 0 ∗ toks1 (F := F) c ∗ (∃ f, cSlot (F := F) c c f) ∗ waitSt m 1 c 0 ∗ atAll (F := F) 0 c 0 ∗ ownG (F := F) c ∗ toks2 (F := F) c ∗ waitSt m 3 c 0 ∗ OSt m c 0 ∗ atAll (F := F) 2 c 0 ∗ ownPos (F := F) c) := by
  unfold positions payToks barB ownG
  rw [c_any, g_any]
  iintro ⟨⟨Hb, Hown, H0, H1, H2, H3⟩, ⟨HtB, Ht1, Ht2⟩, ⟨HcB, Hc1, Hc3⟩, Hp, ⟨HC, HCs⟩, ⟨HG, HGs⟩, Ho, Hin⟩
  ihave HS := (sig_start c fc fg) $$ [HtB HCs HGs]
  · iframe HtB HCs HGs
  ihave HP := (PSt_start m c fp) $$ Hp
  ihave HO := (OSt_start m c fo) $$ Ho
  ihave HW1 := (wait_start m 1 c) $$ [Hc1 H1]
  · iframe Hc1 H1
  ihave HW3 := (wait_start m 3 c) $$ [Hc3 H3]
  · iframe Hc3 H3
  isplitl [HS]; · iexact HS
  isplitl [HcB Hb]; · iframe HcB Hb
  isplitl [Hin]; · iexact Hin
  isplitl [HP]; · iexact HP
  isplitl [Ht1]; · iexact Ht1
  isplitl [HC]; · iexists fc; iexact HC
  isplitl [HW1]; · iexact HW1
  isplitl [H0]; · iexact H0
  isplitl [HG]; · iexists fg; iexact HG
  isplitl [Ht2]; · iexact Ht2
  isplitl [HW3]; · iexact HW3
  isplitl [HO]; · iexact HO
  isplitl [H2]; · iexact H2
  iexact Hown

/-! ## The end -/

/-- With something known at every index, a family of updates is an update of the family. -/
theorem update_all {ι : Type} [Fintype ι] [DecidableEq ι] {R : sProp 𝕄} [Persistent R] {Φ Ψ : ι → sProp 𝕄}
    (h : ∀ i, iprop(R ∗ Φ i) ⊢ |={Set.univ}=> Ψ i) :
    iprop(R ∗ bigSep Finset.univ Φ) ⊢ |={Set.univ}=> bigSep Finset.univ Ψ :=
  ((sep_mono_left (BI.bigSep_of_persistent Finset.univ R)).trans (by rw [← bigSep_sep']; exact bigSep_mono fun i _ => h i)).trans (bigSep_fupd _ _)

/-- The cells of array `a` close: their counters are at zero. -/
theorem close_peers (a : Fin 4) (c : Dev nD) :
    iprop(ctx m K ∗ atAll (F := F) a c 1) ⊢ |={Set.univ}=> bigSep Finset.univ fun r : Fin 31 => semVal (dmaCell a c (peer c r)) 0 := by
  unfold atAll
  refine update_all fun r => ?_
  iintro ⟨#HC, HA⟩
  ihave #HI := (ctx_dma m K a c (peer c r)) $$ HC
  icases HI with ⟨#HI, -⟩
  imod (Rounds.cell_close ER (Rd m) (Set.mem_univ (K (c, some (a, peer c r)))) (fun h => h) (R := 1) (duties_later m (dmaCell a c (peer c r)))) $$ [HA] with HZ
  · isplitr; · iexact HI
    iexact HA
  imodintro
  iexact HZ
/-- So do those of the own index -/
theorem close_own (c : Dev nD) :
    iprop(ctx m K ∗ ownPos (F := F) c) ⊢ |={Set.univ}=> bigSep Finset.univ fun a : Fin 4 => semVal (dmaCell a c c) 0 := by
  unfold ownPos
  refine update_all fun a => ?_
  iintro ⟨#HC, HA⟩
  ihave #HI := (ctx_dma m K a c c) $$ HC
  icases HI with ⟨#HI, -⟩
  imod (Rounds.cell_close ER (Rd m) (Set.mem_univ (K (c, some (a, c)))) (fun h => h) (R := 0) (duties_own m c a)) $$ [HA] with HZ
  · isplitr; · iexact HI
    iexact HA
  imodintro
  iexact HZ
/-- and the barrier's. -/
theorem close_bar (c : Dev nD) : iprop(ctx m K ∗ barPos (F := F) c) ⊢ |={Set.univ}=> semVal (barCell c) 0 := by
  unfold barPos
  iintro ⟨#HC, HA⟩
  ihave #HI := (ctx_bar m K c) $$ HC
  icases HI with ⟨#HI, -⟩
  imod (Rounds.cell_close ER (Rd m) (Set.mem_univ (K (c, none))) (fun h => h) (R := 1) (duties_later m (barCell c))) $$ [HA] with HZ
  · isplitr; · iexact HI
    iexact HA
  imodintro
  iexact HZ

/-- The four arrays one by one. -/
theorem bigSep_arrays (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The semaphores of a device, the own index and the peers together. -/
theorem sems_join (c : Dev nD) : iprop((bigSep Finset.univ fun a : Fin 4 => semVal (dmaCell a c c) 0)
      ∗ bigSep Finset.univ fun a : Fin 4 => bigSep Finset.univ fun r : Fin 31 => semVal (dmaCell a c (peer c r)) 0)
    ⊢ (bigSep Finset.univ fun p : Fin 4 × Fin 32 => semVal (dmaCell p.1 c p.2) 0 : sProp 𝕄) := by
  rw [bigSep_univ_prod, ← bigSep_sep']
  exact bigSep_mono fun a _ => Entails.of_eq (bigSep_peers c fun s => (semVal (dmaCell a c s) 0 : sProp 𝕄)).symm

/-- The end of the body: every cell closed. -/
theorem finish (c : Dev nD) :
    iprop(ctx m K ∗ ((oLoc c ↦{fullShare} outB m) ∗ (gLoc c ↦{fullShare} gathB m) ∗ atAll (F := F) 2 c 1 ∗ atAll (F := F) 3 c 1 ∗ (pLoc c ↦{fullShare} partB m c) ∗ atAll (F := F) 0 c 1 ∗ CAll m c ∗ atAll (F := F) 1 c 1 ∗ barPos (F := F) c ∗ ins m c ∗ ownPos (F := F) c))
      ⊢ |={Set.univ}=> iprop(Φ₁ (F := F) c ∗ (oLoc c ↦{fullShare} outB m) ∗ ins m c) := by
  unfold CAll
  iintro ⟨#HC, HO, HG, H2, H3, HP, H0, HCC, H1, HB, Hin, Hown⟩
  imod (close_peers m K 0 c) $$ [H0] with H0
  · isplitr; · iexact HC
    iexact H0
  imod (close_peers m K 1 c) $$ [H1] with H1
  · isplitr; · iexact HC
    iexact H1
  imod (close_peers m K 2 c) $$ [H2] with H2
  · isplitr; · iexact HC
    iexact H2
  imod (close_peers m K 3 c) $$ [H3] with H3
  · isplitr; · iexact HC
    iexact H3
  imod (close_own m K c) $$ [Hown] with Hown
  · isplitr; · iexact HC
    iexact Hown
  imod (close_bar m K c) $$ [HB] with HB
  · isplitr; · iexact HC
    iexact HB
  imodintro
  ihave HS := (sems_join (F := F) c) $$ [Hown H0 H1 H2 H3]
  · isplitl [Hown]; · iexact Hown
    iapply (Entails.of_eq (bigSep_arrays fun a => (bigSep Finset.univ fun r : Fin 31 => semVal (dmaCell a c (peer c r)) 0 : sProp 𝕄)).symm)
    iframe H0 H1 H2 H3
  isplitr [HO Hin]
  · unfold Φ₁ scratch
    isplitl [HP HCC HG]
    · isplitl [HP]; · iexists (partB m c); iexact HP
      isplitl [HCC]; · iexists (commB m c); iexact HCC
      iexists (gathB m); iexact HG
    isplitl [HS]; · iexact HS
    iexact HB
  isplitl [HO]; · iexact HO
  iexact Hin

/-! ## The body's obligation -/

theorem fetch_in (w : Fin cfg0.W) (hw : w.val < 4) (t : Fin cfg0.N) : (cfg0.win w).fetch t = true := by
  rw [fin_N0 t]
  rcases w with ⟨_ | _ | _ | _ | w, h⟩
  · rfl
  · rfl
  · rfl
  · rfl
  · exact absurd hw (by show ¬ w + 4 < 4; omega)

def bodyPre (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(Φ₁ c ∗ (dats m 0 c).owesAt () t0_0.succ ∗ stg c cc0_stg0_0 (xstg m c) ∗ stg c cc0_stg1_0 (wgstg m c)
    ∗ stg c cc0_stg2_0 (wustg m c) ∗ stg c cc0_stg3_0 (wdstg m c) ∗ stg c cc0_stg4_0 (outB m))

/-- What is staged at the start is the device's inputs. -/
theorem inputs (c : Dev nD) :
    iprop((∃ d, stg c cc0_stg0_0 ((dats m 0 c).before (0 : Fin 5) t0_0 d)) ∗ (∃ d, stg c cc0_stg1_0 ((dats m 0 c).before (1 : Fin 5) t0_0 d))
      ∗ (∃ d, stg c cc0_stg2_0 ((dats m 0 c).before (2 : Fin 5) t0_0 d)) ∗ (∃ d, stg c cc0_stg3_0 ((dats m 0 c).before (3 : Fin 5) t0_0 d)))
    ⊢ (ins m c : sProp 𝕄) := by
  unfold ins xPts wgPts wuPts wdPts
  iintro ⟨⟨%d0, %g0, %h0, H0⟩, ⟨%d1, %g1, %h1, H1⟩, ⟨%d2, %g2, %h2, H2⟩, ⟨%d3, %g3, %h3, H3⟩⟩
  have e0 : g0 = xstg m c := by rw [h0]; unfold Dat.before; rw [if_pos (fetch_in 0 (by decide) t0_0)]; rfl
  have e1 : g1 = wgstg m c := by rw [h1]; unfold Dat.before; rw [if_pos (fetch_in 1 (by decide) t0_0)]; rfl
  have e2 : g2 = wustg m c := by rw [h2]; unfold Dat.before; rw [if_pos (fetch_in 2 (by decide) t0_0)]; rfl
  have e3 : g3 = wdstg m c := by rw [h3]; unfold Dat.before; rw [if_pos (fetch_in 3 (by decide) t0_0)]; rfl
  subst e0 e1 e2 e3
  iframe H0 H1 H2 H3

/-- The end of the program, given the end of the body. -/
theorem done {c : Dev nD} {Q S : sProp 𝕄} (h : iprop(ctx m K ∗ S) ⊢ |={Set.univ}=> Q) :
    Run m K c 31 31 31 S ⊢ WP c (pure ⟨⟩ : Prog (TpuEff nD τ sig (Elt F) Λ₀ .tc) PUnit) fun _ => iprop((∃ W, owes (c : Thread nD τ) 0 W) ∗ Q) := by
  rw [Prog.pure_eq_ret, WP, wp_ret]
  unfold Run
  rw [owed_none]
  iintro ⟨HC, HO, HS⟩
  imod h $$ [HC HS] with HQ
  · iframe HC HS
  imodintro
  iframe HO HQ

/-- The body from what the launch gives. -/
theorem sound_body (c : Dev nD) (W : Waits sig Unit) (fp : Buf (Elt F) (pLoc c)) (fc : Buf (Elt F) (cLoc c)) (fg : Buf (Elt F) (gLoc c)) (fo : Buf (Elt F) (oLoc c)) :
    iprop((records m K ∗ levs) ∗ owes (c : Thread nD τ) (owed c 0 0 0) W
        ∗ (positions (F := F) c ∗ payToks (F := F) c ∗ (cred (tallyAt (barCell c) () 31) ∗ credAll 1 c ∗ credAll 3 c)
        ∗ (pLoc c ↦{fullShare} fp) ∗ (cLoc c ↦{fullShare} fc) ∗ (gLoc c ↦{fullShare} fg) ∗ (oLoc c ↦{fullShare} fo) ∗ ins m c))
      ⊢ WP c (app (cc0_body (F := F))) fun _ => iprop((∃ W, owes (c : Thread nD τ) 0 W) ∗ Φ₁ (F := F) c ∗ (oLoc c ↦{fullShare} outB m) ∗ ins m c) := by
  refine BIBase.Entails.trans ?_ (body_run m K (R := ownPos c) (done m K (finish m K c)))
  unfold Run ctx records
  iintro ⟨⟨⟨HI, HR⟩, HL⟩, HO, HS⟩
  isplitl [HI HR HL]; · iframe HI HR HL
  isplitl [HO]; · iexists W; iexact HO
  iapply (arrange m c fp fc fg fo); iexact HS

theorem stg_intro (c : Dev nD) (b : Ref sig .tc) (X : b.ty.Contents (Elt F)) : (((c : Thread nD τ).loc b) ↦{fullShare} X : sProp 𝕄) ⊢ stg c b X := by
  iintro H
  iexists X
  isplitr; · ipureintro; rfl
  iexact H

theorem body_sound (c : Dev nD) : bodyPre m c ⊢ WP c (app (cc0_body (F := F))) fun _ => bodyPost m c := by
  have hpost : iprop((∃ W, owes (c : Thread nD τ) 0 W) ∗ Φ₁ (F := F) c ∗ (oLoc c ↦{fullShare} outB m) ∗ ins m c) ⊢ bodyPost m c := by
    unfold bodyPost ins xPts wgPts wuPts wdPts Dat.owesAt Pipeline.owesWithin
    rw [show (dats m 0 c).owed t0_0.succ = 0 from rfl]
    iintro ⟨⟨%W, HO⟩, HΦ, Hout, Hx, Hg, Hu, Hd⟩
    isplitl [HΦ]; · iexact HΦ
    isplitl [HO]
    · iexists W
      isplitr; · ipureintro; exact fun _ _ => Or.inl trivial
      iexact HO
    isplitl [Hx]; · iapply (stg_intro c cc0_stg0_0 (xstg m c)); iexact Hx
    isplitl [Hg]; · iapply (stg_intro c cc0_stg1_0 (wgstg m c)); iexact Hg
    isplitl [Hu]; · iapply (stg_intro c cc0_stg2_0 (wustg m c)); iexact Hu
    isplitl [Hd]; · iapply (stg_intro c cc0_stg3_0 (wdstg m c)); iexact Hd
    iapply (stg_intro c cc0_stg4_0 (outB m)); iexact Hout
  refine BIBase.Entails.trans ?_ (Idealize.SL.Sem.wp_mono _ _ _ (fun _ => hpost))
  unfold bodyPre Φ₀ start deal scratch Dat.owesAt Pipeline.owesWithin
  rw [show (dats m 0 c).owed t0_0.castSucc = owed c 0 0 0 from rfl]
  iintro ⟨⟨⟨⟨%K, HI, HP, HT⟩, HC, HL⟩, ⟨%fp, Hp⟩, ⟨%fc, Hc⟩, ⟨%fg, Hg⟩⟩, ⟨%W, -, HO⟩, H0, H1, H2, H3, ⟨%d4, %fo, -, H4⟩⟩
  ihave Hin := (inputs m c) $$ [H0 H1 H2 H3]
  · iframe H0 H1 H2 H3
  iapply (sound_body m K c W fp fc fg fo)
  isplitl [HI HL]; · iframe HI HL
  isplitl [HO]; · iexact HO
  isplitl [HP]; · iexact HP
  isplitl [HT]; · iexact HT
  isplitl [HC]; · iexact HC
  iframe Hp Hc Hg H4 Hin

/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_sound m c

end Cert.KernelIdeal.Mlp

end
-- ==== Proof.KernelIdeal.Dealing.lean ====
/-
# Dealing out the launch's resources

The launch starts every cell's round state, mints every duty's token and holds every semaphore at zero.
`glob`: the cells' invariants are made once for the whole mesh, each device keeps the positions at its
own cells and gets the tokens of the duties it pays at others' cells. `creds`: what all devices together
owe at the launch is, per device, the credit it waits with.
-/
module

public import proofs.«01_k».proof.Proof.KernelIdeal.Sound

@[expose] public section

set_option maxRecDepth 20000

noncomputable section

namespace Cert.KernelIdeal.Mlp

open Cert.KernelIdeal Cert.KernelIdeal.Gen Cert.Peers Cert.Geometry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellsWaits Prefetch)

variable {F : FTy → Type} [FloatOps F]

local notation "𝕄" => MT nD τ sig Unit (Elt F) ℕ UU ℕ

variable (m : (ℓ : Loc nD τ sig) → Buf (Elt F) ℓ)

/-! ## Families over the cells of a device -/

omit [FloatOps F] in
theorem bigSep_opt {A : Type} [Fintype A] [DecidableEq A] (Φ : Option A → sProp 𝕄) :
    bigSep Finset.univ Φ = iprop(Φ none ∗ bigSep Finset.univ fun a => Φ (some a)) := by
  have h : (Finset.univ : Finset (Option A)).erase none = Finset.univ.map Function.Embedding.some := by
    ext x; cases x <;> simp
  rw [bigSep_univ_at Φ none, h, bigSep_map]
  rfl

omit [FloatOps F] in
theorem bigSep_arr (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- The cells of a device are its barrier, the cells of its own index, and per array the peers'. -/
theorem bigSep_cellsOf (c : Dev nD) (Φ : CIx → sProp 𝕄) : bigSep Finset.univ Φ
    = iprop(Φ none ∗ (bigSep Finset.univ fun a : Fin 4 => Φ (some (a, c)))
        ∗ bigSep Finset.univ fun a : Fin 4 => bigSep Finset.univ fun r : Fin 31 => Φ (some (a, peer c r))) := by
  rw [bigSep_opt, bigSep_univ_prod, bigSep_congr (s := Finset.univ) fun (a : Fin 4) _ => bigSep_peers c fun s => Φ (some (a, s)), bigSep_sep']

/-! ## The cells and tokens of the mesh -/

abbrev kcell (p : Dev nD × CIx) : GSem nD τ sig := cellAt p.1 p.2

theorem kcell_injective : Function.Injective kcell := fun ⟨c, k⟩ ⟨c', k'⟩ h => by
  have h1 : c = c' := congrArg (fun g : GSem nD τ sig => g.1.1) h
  have h2 : k = k' := csem_injective (congrArg Prod.snd h)
  rw [h1, h2]

def meshCells : Finset (GSem nD τ sig) := Finset.univ.map ⟨kcell, kcell_injective⟩

/-- The token for the duty of device `peer c r` at a cell of device `c`: its barrier cell, or that of an array for the peer. -/
abbrev tokOf (x : Dev nD × Option (Fin 4) × Fin 31) : GSem nD τ sig × ℕ × Fin 32 :=
  (cellAt x.1 (x.2.1.map fun a => (a, peer x.1 x.2.2)), 0, peer x.1 x.2.2)

theorem tokOf_injective : Function.Injective tokOf := fun ⟨c, o, r⟩ ⟨c', o', r'⟩ h => by
  have hc := kcell_injective (a₁ := (c, o.map fun a => (a, peer c r))) (a₂ := (c', o'.map fun a => (a, peer c' r'))) (congrArg Prod.fst h)
  obtain ⟨h1, h2⟩ := Prod.mk.inj hc
  subst h1
  have hr : r = r' := peer_injective c (congrArg (fun x : GSem nD τ sig × ℕ × Fin 32 => x.2.2) h)
  subst hr
  have ho : o = o' := Option.map_injective (fun a a' e => congrArg Prod.fst e) h2
  rw [ho]

def meshToks : Finset (GSem nD τ sig × ℕ × Fin 32) := Finset.univ.map ⟨tokOf, tokOf_injective⟩

def u₀ : UU := (initOf (Pipeline.cells cfgs cellOf_inj) (Pipeline.launchToks cfgs cellOf_inj), initOf meshCells meshToks)

/-- The tokens of the duties at device `c`'s own cells. -/
def minted (c : Dev nD) : sProp 𝕄 :=
  iprop((bigSep Finset.univ fun r : Fin 31 => dutyTok ER (barCell c) 0 (peer c r))
    ∗ bigSep Finset.univ fun a : Fin 4 => bigSep Finset.univ fun r : Fin 31 => dutyTok ER (dmaCell a c (peer c r)) 0 (peer c r))

/-- What the launch deals device `c` at first. -/
def G (c : Dev nD) : sProp 𝕄 :=
  iprop((bigSep Finset.univ fun k : CIx => roundState ER (Rd m) (cellAt c k) 0)
    ∗ ((bigSep Finset.univ fun k : CIx => atPos ER (cellAt c k) 0 ∅ 0) ∗ bigSep Finset.univ fun k : CIx => reached ER (cellAt c k) 0) ∗ minted c)

omit [FloatOps F] in
theorem bigSep_mesh (Φ : GSem nD τ sig → sProp 𝕄) :
    bigSep meshCells Φ = bigSep Finset.univ fun c : Dev nD => bigSep Finset.univ fun k : CIx => Φ (cellAt c k) := by
  unfold meshCells; rw [bigSep_map, bigSep_univ_prod]; rfl

omit [FloatOps F] in
theorem bigSep_toks : bigSep meshToks (fun x => (dutyTok ER x.1 x.2.1 x.2.2 : sProp 𝕄)) = bigSep Finset.univ fun c : Dev nD => minted c := by
  unfold meshToks
  rw [bigSep_map, bigSep_univ_prod]
  refine bigSep_congr fun c _ => ?_
  rw [bigSep_univ_prod, bigSep_opt]
  rfl

theorem fund : BI.own (ER (initOf meshCells meshToks)) ⊢ (|==> bigSep Finset.univ (G m) : sProp 𝕄) := by
  iintro HX
  imod (Rounds.fund ER (Rd m) meshCells meshToks) $$ HX with ⟨Hst, Hr, Hat, Htok⟩
  imodintro
  ihave Hst' := (Entails.of_eq (bigSep_mesh fun g => roundState ER (Rd m) g 0)) $$ Hst
  ihave Hat' := (Entails.of_eq (bigSep_mesh fun g => atPos ER g 0 ∅ 0)) $$ Hat
  ihave Hr' := (Entails.of_eq (bigSep_mesh fun g => reached ER g 0)) $$ Hr
  ihave Htok' := (Entails.of_eq bigSep_toks) $$ Htok
  unfold G; rw [bigSep_sep', bigSep_sep', bigSep_sep']
  isplitl [Hst']; · iexact Hst'
  isplitl [Hat' Hr']
  · isplitl [Hat'] <;> iassumption
  iexact Htok'

/-! ## The semaphores -/

/-- The kernel's own semaphores. -/
abbrev osem (p : Fin 4 × Fin 32) : SemLoc sig := .dma (dsem p.1 p.2)

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun p : Fin 4 × Fin 32 => semVal (dmaCell p.1 c p.2) 0 := by
  unfold Pipeline.ownSems0; rfl

theorem unscoped_sems : (Finset.univ.filter fun sm : SemLoc sig => ¬ sm.isScoped .tc = true) = {SemLoc.reg barS} := by
  decide

omit [FloatOps F] in
theorem unscopedSems0_eq (c : Dev nD) : (unscopedSems0 c : sProp 𝕄) = semVal (barCell c) 0 := by
  unfold unscopedSems0; rw [unscoped_sems, bigSep_singleton]

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (cellAt c k) 0 : sProp 𝕄) := by
  rw [ownSems0_eq, unscopedSems0_eq, bigSep_opt]
  iintro ⟨HD, HB⟩
  isplitl [HB]; · iexact HB
  iexact HD

/-! ## The invariants -/

theorem alloc (c : Dev nD) :
    iprop((bigSep Finset.univ fun k : CIx => semVal (cellAt c k) 0) ∗ bigSep Finset.univ fun k : CIx => roundState ER (Rd m) (cellAt c k) 0)
      ⊢ (|={Set.univ}=> bigSep Finset.univ fun k : CIx => iprop(∃ κ : ℕ, cellInv ER (Rd m) κ (cellAt c k)) : sProp 𝕄) := by
  rw [← bigSep_sep']
  exact (bigSep_mono fun k _ => (Rounds.body_intro ER (Rd m) (cellAt c k)).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (Rd m) κ (cellAt c k)))
          ∗ ((bigSep Finset.univ fun k : CIx => atPos ER (cellAt c k) 0 ∅ 0) ∗ bigSep Finset.univ fun k : CIx => reached ER (cellAt c k) 0) ∗ minted c) := by
  unfold G
  iintro ⟨Hos, Hus, Hst, Hat, Htok⟩
  ihave Hv := (sems0_eq (F := F) c) $$ [Hos Hus]
  · isplitl [Hos] <;> iassumption
  imod (alloc m c) $$ [Hv Hst] with Hinv
  · isplitl [Hv] <;> iassumption
  imodintro
  isplitl [Hinv]; · iexact Hinv
  isplitl [Hat]; · iexact Hat
  iexact Htok

omit [FloatOps F] in
/-- The tokens go to those who pay. -/
theorem toks_around : (bigSep Finset.univ fun c : Dev nD => (minted c : sProp 𝕄)) ⊢ bigSep Finset.univ fun c : Dev nD => payToks c := by
  unfold minted payToks toksB toks1 toks2
  simp only [bigSep_arr, bigSep_sep']
  rw [bigSep_swap_peers fun c d => (dutyTok ER (barCell c) 0 d : sProp 𝕄),
    bigSep_swap_peers fun c d => (dutyTok ER (dmaCell 1 c d) 0 d : sProp 𝕄),
    bigSep_swap_peers fun c d => (dutyTok ER (dmaCell 3 c d) 0 d : sProp 𝕄)]
  iintro ⟨HB, H0, H1, H2, H3⟩
  isplitl [HB]; · iexact HB
  isplitl [H0 H1]
  · isplitl [H0]; · iexact H0
    iexact H1
  isplitl [H2]; · iexact H2
  iexact H3

omit [FloatOps F] in
/-- A device's positions, by kind of cell. -/
theorem positions_intro (c : Dev nD) : (bigSep Finset.univ fun k : CIx => atPos ER (cellAt c k) 0 ∅ 0 : sProp 𝕄) ⊢ positions c := by
  unfold positions ownPos atAll
  rw [bigSep_cellsOf c, bigSep_arr (fun a => bigSep Finset.univ fun r : Fin 31 => (atPos ER (cellAt c (some (a, peer c r))) 0 ∅ 0 : sProp 𝕄))]
  exact Entails.refl _

theorem deal_intro (K : Dev nD × CIx → ℕ) (c : Dev nD) :
    iprop(records m K ∗ ((bigSep Finset.univ fun k : CIx => atPos ER (cellAt c k) 0 ∅ 0) ∗ payToks c)) ⊢ deal m c := by
  unfold deal
  iintro ⟨HR, Hat, Htok⟩
  ihave Hp := (positions_intro (F := F) c) $$ Hat
  iexists K
  isplitl [HR]; · iexact HR
  isplitl [Hp]; · iexact Hp
  iexact Htok

omit [FloatOps F] in
/-- What is persistent serves every member of a family. -/
theorem bigSep_serve {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem regroup :
    (bigSep Finset.univ fun c : Dev nD => iprop((bigSep Finset.univ fun k : CIx => iprop(∃ κ : ℕ, cellInv ER (Rd m) κ (cellAt c k)))
          ∗ ((bigSep Finset.univ fun k : CIx => atPos ER (cellAt c k) 0 ∅ 0) ∗ bigSep Finset.univ fun k : CIx => reached ER (cellAt c k) 0) ∗ minted c) : sProp 𝕄)
      ⊢ bigSep Finset.univ (deal m) := by
  rw [bigSep_sep', bigSep_sep', bigSep_sep', ← bigSep_univ_prod (fun p : Dev nD × CIx => iprop(∃ κ : ℕ, cellInv ER (Rd m) κ (cellAt p.1 p.2))),
    ← bigSep_univ_prod (fun p : Dev nD × CIx => (reached ER (cellAt p.1 p.2) 0 : sProp 𝕄))]
  iintro ⟨HI, ⟨Hat, HR⟩, Htok⟩
  ihave HK := (BI.bigSep_exists_pi Finset.univ (fun (p : Dev nD × CIx) (κ : ℕ) => (cellInv ER (Rd m) κ (cellAt p.1 p.2) : sProp 𝕄))) $$ HI
  icases HK with ⟨%K, HI⟩
  ihave Htk := (toks_around (F := F)) $$ Htok
  iapply (bigSep_serve (R := records m K) fun c _ => deal_intro m K c)
  isplitl [HI HR]
  · unfold records; isplitl [HI]; · iexact HI
    iexact HR
  · rw [bigSep_sep']
    isplitl [Hat]; · iexact Hat
    iexact Htk

/-- The launch's step over the whole mesh. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (deal m) :=
  ((bigSep_mono fun c _ => core_alloc m c).trans (bigSep_fupd _ _)).trans (BI.fupd_mono (regroup m))

end Cert.KernelIdeal.Mlp

end
-- ==== Proof.KernelIdeal.Credit.lean ====
/-
# The launch credit

`owed_total`: what the devices together owe a cell at the launch. A barrier is owed a unit by each other
device, a receive cell of a peer's index the credit of one transfer. `creds`: so the launch hands a
device the credit it waits with.
-/
module

public import proofs.«01_k».proof.Proof.KernelIdeal.Dealing

@[expose] public section

set_option maxRecDepth 20000

noncomputable section

namespace Cert.KernelIdeal.Mlp

open Cert.KernelIdeal Cert.KernelIdeal.Gen Cert.Peers Cert.Geometry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellsWaits Prefetch)

variable {F : FTy → Type} [FloatOps F]

local notation "𝕄" => MT nD τ sig Unit (Elt F) ℕ UU ℕ

/-! ## Sums over the peers -/

theorem sum_peers (d : Fin 32) (f : Fin 32 → ℕ) : ∑ r : Fin 31, f (peer d r) = ∑ e ∈ Finset.univ.erase d, f e := by
  rw [erase_eq_peers, Finset.sum_map]; rfl

/-- Each device pays `n` to a cell of each of its peers, the payer's `k d`: what cell `q` of device `c` gets. -/
theorem sum_paid (k : Dev nD → CIx) (n : ℕ) (c : Dev nD) (q : CIx) :
    ∑ d : Dev nD, (∑ r : Fin 31, (tallyAt (cellAt (peer d r) (k d)) () n : CellTallies nD τ sig Unit)) (cellAt c q) ()
      = ∑ d : Dev nD, if d ≠ c ∧ k d = q then n else 0 := by
  refine Finset.sum_congr rfl fun d _ => ?_
  have h1 : ∀ e : Fin 32, (tallyAt (cellAt e (k d)) () n : CellTallies nD τ sig Unit) (cellAt c q) () = if e = c then (if k d = q then n else 0) else 0 := fun e => by
    rw [tallyAt_apply]
    by_cases he : e = c
    · subst he
      by_cases hk : k d = q
      · rw [if_pos ⟨by rw [hk], rfl⟩, if_pos rfl, if_pos hk]
      · rw [if_neg fun h => hk ((Prod.mk.inj (kcell_injective (a₁ := (e, q)) (a₂ := (e, k d)) h.1)).2.symm), if_pos rfl, if_neg hk]
    · rw [if_neg fun h => he ((Prod.mk.inj (kcell_injective (a₁ := (c, q)) (a₂ := (e, k d)) h.1)).1.symm), if_neg he]
  rw [Finset.sum_apply, Finsupp.finset_sum_apply,
    sum_peers d fun e => (tallyAt (cellAt e (k d)) () n : CellTallies nD τ sig Unit) (cellAt c q) (),
    Finset.sum_congr rfl fun e _ => h1 e, Finset.sum_ite_eq']
  by_cases hd : d = c
  · rw [if_neg fun h => (Finset.mem_erase.mp h).1 hd.symm, if_neg fun h => h.1 hd]
  · rw [if_pos (Finset.mem_erase.mpr ⟨fun h => hd h.symm, Finset.mem_univ _⟩)]
    by_cases hk : k d = q
    · rw [if_pos hk, if_pos ⟨hd, hk⟩]
    · rw [if_neg hk, if_neg fun h => hk h.2]

theorem owed_total (c : Dev nD) (q : CIx) : ∑ d : Dev nD, owed d 0 0 0 (cellAt c q) ()
    = (∑ d : Dev nD, if d ≠ c ∧ (none : CIx) = q then 1 else 0)
      + ((∑ d : Dev nD, if d ≠ c ∧ (some (1, d) : CIx) = q then N else 0) + ∑ d : Dev nD, if d ≠ c ∧ (some (3, d) : CIx) = q then N else 0) := by
  rw [← sum_paid (fun _ => none), ← sum_paid (fun d => some (1, d)), ← sum_paid (fun d => some (3, d)), ← Finset.sum_add_distrib, ← Finset.sum_add_distrib]
  refine Finset.sum_congr rfl fun d _ => ?_
  unfold owed
  rw [owing_zero, owing_zero, owing_zero, Pi.add_apply, Finsupp.add_apply, Pi.add_apply, Finsupp.add_apply]
  rfl

theorem count_others : ∀ c : Fin 32, (∑ d : Fin 32, if d ≠ c then 1 else 0) = 31 := fun c => by
  rw [← Finset.card_filter, Finset.filter_ne', Finset.card_erase_of_mem (Finset.mem_univ c), Finset.card_univ, Fintype.card_fin]

theorem total_bar (c : Dev nD) : ∑ d : Dev nD, owed d 0 0 0 (barCell c) () = 31 := by
  refine (owed_total c none).trans ?_
  rw [Finset.sum_eq_zero (f := fun d => if d ≠ c ∧ (some (1, d) : CIx) = none then N else 0) fun d _ => if_neg fun h => Option.some_ne_none _ h.2,
    Finset.sum_eq_zero (f := fun d => if d ≠ c ∧ (some (3, d) : CIx) = none then N else 0) fun d _ => if_neg fun h => Option.some_ne_none _ h.2,
    Nat.add_zero, Nat.add_zero]
  refine Eq.trans ?_ (count_others c)
  exact Finset.sum_congr rfl fun d _ => if_congr (and_iff_left rfl) rfl rfl

/-- One of the payments alone reaches a given cell. -/
theorem sum_one (a b : Fin 4) {c s : Dev nD} (h : s ≠ c) :
    (∑ d : Dev nD, if d ≠ c ∧ (some (a, d) : CIx) = some (b, s) then N else 0) = if a = b then N else 0 := by
  by_cases hab : a = b
  · subst hab
    rw [if_pos rfl, Finset.sum_eq_single s (fun d _ hd => if_neg fun h' => hd (congrArg Prod.snd (Option.some.inj h'.2)))
      (fun h' => absurd (Finset.mem_univ _) h'), if_pos ⟨h, rfl⟩]
  · rw [if_neg hab]
    exact Finset.sum_eq_zero fun d _ => if_neg fun h' => hab (congrArg Prod.fst (Option.some.inj h'.2))

theorem total_dma (b : Fin 4) (hb : b = 1 ∨ b = 3) {c s : Dev nD} (h : s ≠ c) : ∑ d : Dev nD, owed d 0 0 0 (dmaCell b c s) () = N := by
  refine (owed_total c (some (b, s))).trans ?_
  rw [sum_one 1 b h, sum_one 3 b h,
    Finset.sum_eq_zero (f := fun d : Dev nD => if d ≠ c ∧ (none : CIx) = some (b, s) then 1 else 0) fun d _ => if_neg fun h' => Option.some_ne_none _ h'.2.symm]
  rcases hb with rfl | rfl
  · rw [if_pos rfl, if_neg (by decide), Nat.zero_add]
    rfl
  · rw [if_pos rfl, if_neg (by decide), Nat.zero_add, Nat.zero_add]

/-! ## The credit -/

abbrev O₀ (c : Dev nD) : CellTallies nD τ sig Unit := owed c 0 0 0

theorem launch_cell (g : GSem nD τ sig) (n : ℕ) (h : ∑ d : Dev nD, owed d 0 0 0 g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same]
  exact h

omit [FloatOps F] in
theorem creds_cells (c : Dev nD) : (Pipeline.launchCred O₀ c : sProp 𝕄)
    ⊢ bigSep Finset.univ fun k : CIx => cred (tallyOn (cellAt c k) (launchCredit (Pipeline.owing O₀) 0 (cellAt c k))) := by
  unfold Pipeline.launchCred
  refine (BI.bigSep_subset (Finset.subset_univ (Finset.univ.map ⟨csem, csem_injective⟩))).trans ?_
  rw [bigSep_map]
  exact Entails.refl _

omit [FloatOps F] in
theorem creds_pick (c : Dev nD) :
    (bigSep Finset.univ fun k : CIx => cred (tallyOn (cellAt c k) (launchCredit (Pipeline.owing O₀) 0 (cellAt c k))) : sProp 𝕄)
      ⊢ iprop(cred (tallyAt (barCell c) () 31) ∗ credAll 1 c ∗ credAll 3 c) := by
  unfold credAll
  rw [bigSep_cellsOf c, bigSep_arr (fun a => bigSep Finset.univ fun r : Fin 31 => _),
    ← launch_cell (barCell c) 31 (total_bar c),
    ← bigSep_congr fun r _ => congrArg cred (launch_cell (dmaCell 1 c (peer c r)) N (total_dma 1 (.inl rfl) (peer_ne c r))),
    ← bigSep_congr fun r _ => congrArg cred (launch_cell (dmaCell 3 c (peer c r)) N (total_dma 3 (.inr rfl) (peer_ne c r)))]
  iintro ⟨HB, -, -, H1, -, H3⟩
  isplitl [HB]; · iexact HB
  isplitl [H1]; · iexact H1
  iexact H3

omit [FloatOps F] in
/-- The credit the launch hands a device. -/
theorem creds (c : Dev nD) : (Pipeline.launchCred O₀ c : sProp 𝕄) ⊢ iprop(cred (tallyAt (barCell c) () 31) ∗ credAll 1 c ∗ credAll 3 c) :=
  (creds_cells c).trans (creds_pick c)

end Cert.KernelIdeal.Mlp

end
-- ==== Proof.KernelIdeal.Run.lean ====
/-
# The run of the whole mesh

`run`: from any memory with zero counters every fair execution of the program ends, with each device's
arrays at the contents the body leaves and every semaphore at zero.
-/
module

public import proofs.«01_k».proof.Proof.KernelIdeal.Credit
public import Idealize.ShloMosaic.Lib.Pipeline.CollectiveSegs
public import Idealize.ShloMosaic.Lib.Pipeline.ValueKit

@[expose] public section

set_option maxRecDepth 20000

noncomputable section

namespace Cert.KernelIdeal.Mlp

open Cert.KernelIdeal Cert.KernelIdeal.Gen Cert.Peers Cert.Geometry

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellsWaits Prefetch)

variable {F : FTy → Type} [FloatOps F]

local notation "𝕄" => MT nD τ sig Unit (Elt F) ℕ UU ℕ

variable (m : (ℓ : Loc nD τ sig) → Buf (Elt F) ℓ) (ρ : (c : Dev nD) → PrngReg)

theorem ownSemFacts : Pipeline.OwnSemFacts cfg0.spec osem where
  isScoped := by decide
  inj := fun p p' h => Option.some.inj (csem_injective (a₁ := some p) (a₂ := some p') h)
  disj := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ deal m c)
      ⊢ |={Set.univ}=> iprop(start m c ∗ emp) := by
  iintro ⟨-, Hlev, Hcr, -, HG⟩
  ihave Hc := (creds (F := F) c) $$ Hcr
  imodintro
  unfold start levs
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scratch
  iintro ⟨Hr, Hz, HzB⟩
  isplitl [HzB]; · iexact HzB
  isplitl [Hz]; · iexact Hz
  iexact Hr

/-- The staging copies' semaphores are no cells. -/
theorem stage_kind (w : Fin cfg0.W) (s) : kindOf (.dma ((cfg0.win w).sem s)) = none := by
  fin_cases w <;> fin_cases s <;> decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_below c _ 0 0 0 0 (by rw [show kindOf _ = none from stage_kind w s]; exact Nat.le_refl 0) (.inr (by decide)) (.inr (by decide)) (.inr (by decide))
    · show (levAts L lv : sProp 𝕄) ⊢ MayWait (c : Thread nD τ) _ () 0
      rw [MayWait_zero]
      iintro -
      iempintro

set_option maxRecDepth 100000 in
theorem run_main : θ_run defs (onTc (τ := τ) (main (F := F))) ⟨m, fun _ => 0, ρ⟩ (fun r =>
    (∀ (c : Dev nD) (w : Fin cfg0.W), r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := deal m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

theorem end_in (c : Dev nD) (w : Fin cfg0.W) (h : (cfg0.win w).isOut = false) :
    (dats m 0 c).arrAt w cfg0.N = m ((cfg0.win w).arr.view.loc (c : Thread nD τ)) := (dats m 0 c).arrAt_in w h _

/-- The result's one block is the whole array, and the body leaves `outB` there. -/
theorem end_out (c : Dev nD) : (dats m 0 c).arrAt 4 cfg0.N = outB m := by
  refine (dats m 0 c).arrAt_eq_of_after_last 4 t0_0 (by decide +kernel) _ fun j => ?_
  rfl

theorem run : θ_run defs (onTc (τ := τ) (main (F := F))) ⟨m, fun _ => 0, ρ⟩ (fun r =>
    (∀ c : Dev nD, r.2.mem ((c.tc : Thread nD τ).loc main_v1) = outB m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c => ⟨(h.1 c 4).trans (end_out m c), (h.1 c 0).trans (end_in m c 0 rfl), (h.1 c 1).trans (end_in m c 1 rfl),
    (h.1 c 2).trans (end_in m c 2 rfl), (h.1 c 3).trans (end_in m c 3 rfl)⟩, h.2⟩) (run_main m ρ)

end Cert.KernelIdeal.Mlp

end
-- ==== Proof.Silu.lean ====
/-
# Two facts about the extended reals

* `div_one_add_exp`: dividing by `1 + exp (-u)` is multiplying by the logistic of `u`, at the infinities too;
* `sum_blocks`: a sum over 49152 indices is the sum, over 32 blocks, of the sums over each block's 1536.
-/
module

public import Idealize.ShloMosaic.PureOps.Ideal
public import Idealize.ShloMosaic.Lib.ValueIdx

@[expose] public section

noncomputable section

namespace Cert.Silu

open Idealize.ShloMosaic

/-- The exponential is nowhere negative. -/
theorem exp_nonneg (x : EReal) : 0 ≤ Ideal.exp x := by
  induction x using EReal.rec with
  | bot => exact le_refl _
  | coe r => rw [Ideal.exp_coe]; exact_mod_cast (Real.exp_pos r).le
  | top => exact le_top

/-- So `1 + exp (-u)` is nowhere zero. -/
theorem one_add_exp_ne_zero (u : EReal) : 1 + Ideal.exp (-u) ≠ 0 :=
  (lt_of_lt_of_le zero_lt_one (le_add_of_nonneg_right (exp_nonneg (-u)))).ne'

/-- `u / (1 + exp (-u))` is `u` times its logistic. -/
theorem div_one_add_exp (u : EReal) : Ideal.div u (1 + Ideal.exp (-u)) = u * Ideal.logistic u := by
  rw [Ideal.logistic, Ideal.div, Ideal.div, if_neg (one_add_exp_ne_zero u), if_neg (one_add_exp_ne_zero u), one_mul]

/-- Index `f` of block `s`, among the 49152. -/
def at_ (s : Fin 32) (f : Fin 1536) : Fin 49152 := ⟨s.val * 1536 + f.val, by omega⟩

/-- The sum over 49152 indices, block by block. -/
theorem sum_blocks (g : Fin 49152 → EReal) : ∑ k : Fin 49152, g k = ∑ s : Fin 32, ∑ f : Fin 1536, g (at_ s f) := by
  rw [← Fintype.sum_prod_type' (fun (s : Fin 32) (f : Fin 1536) => g (at_ s f))]
  refine (Fintype.sum_equiv (finProdFinEquiv (m := 32) (n := 1536)) _ g fun p => congrArg g (Fin.ext ?_)).symm
  show p.1.val * 1536 + p.2.val = p.2.val + 1536 * p.1.val
  omega

end Cert.Silu

end
-- ==== Proof.Value.lean ====
/-
# The kernel's result over the extended reals

The value that the run of the idealized kernel leaves, `outB`, read at an index, and its equality with the
reference's value: the gated products of every device's 1536 columns, summed over the devices, are the
gated product over all 49152 columns.
-/
module

public import proofs.«01_k».proof.Proof.KernelIdeal.Slots
public import proofs.«01_k».proof.Proof.Gen.ReferenceIdeal.Read
public import proofs.«01_k».proof.Proof.Silu
public import Idealize.ShloMosaic.Lib.Pipeline.ValueKit
public import Idealize.ShloMosaic.Lib.IdealHost
public import Idealize.ShloMosaic.Lib.Layout

@[expose] public section

noncomputable section

namespace Cert.Value

open Cert.KernelIdeal Cert.KernelIdeal.Gen Cert.KernelIdeal.Mlp Idealize.ShloMosaic Idealize.ShloMosaic.TcCoe Idealize.SL.Sem
open Cert.Silu

/-- One term of the down projection: the gate's product times `up · logistic up`, times the weight. -/
def term (x : Fin 768 → EReal) (g u : Fin 768 → EReal) (d : EReal) : EReal :=
  (∑ k : Fin 768, x k * g k) * ((∑ k : Fin 768, x k * u k) * Ideal.logistic (∑ k : Fin 768, x k * u k)) * d

/-- Terms of equal weights are equal. -/
theorem term_congr (x : Fin 768 → EReal) {g g' u u' : Fin 768 → EReal} {d d' : EReal} (hg : ∀ k, g k = g' k) (hu : ∀ k, u k = u' k)
    (hd : d = d') : term x g u d = term x g' u' d' := by
  rw [funext hg, funext hu, hd]

/-- The partial product at an index: the sum of its 1536 terms. -/
theorem pay1_apply (x : Vec Ideal S768x768 .bf16) (wg wu : Vec Ideal S768x1536 .bf16) (wd : Vec Ideal S1536x768 .bf16)
    (r l : Fin 768) :
    k0_pay1 (F := Ideal) x wg wu wd (ix2 r l)
      = ∑ f : Fin 1536, term (fun k => x (ix2 r k)) (fun k => wg (ix2 k f)) (fun k => wu (ix2 k f)) (wd (ix2 f l)) := by
  unfold k0_pay1 term
  pointwise

/-- The reduced chunk at an index: the sum of the 32 chunks received. -/
theorem pay40_apply (v : Vec Ideal S32x24x768 .bf16) (a : Fin 24) (l : Fin 768) :
    k0_pay40 (F := Ideal) v (ix3 (0 : Fin 1) a l) = ∑ s : Fin 32, v (ix3 s a l) := by
  unfold k0_pay40
  pointwise

/-- What is stored into the result at an index: the gathered chunk there. -/
theorem pay41_apply (v : Vec Ideal S1x24x768 .bf16) (a : Fin 24) (l : Fin 768) :
    k0_pay41 (F := Ideal) v (ix2 a l) = v (ix3 (0 : Fin 1) a l) := by
  unfold k0_pay41
  pointwise

section
variable (m : (ℓ : Loc nD τ sig) → Buf (Elt Ideal) ℓ)

/-- The staged activations are the whole first argument. -/
theorem xstg_eq (c : Dev nD) : xstg m c = m ((c : Thread nD τ).loc main_arg0) := by
  refine funext fun i => congrArg (m ((c : Thread nD τ).loc main_arg0)) (funext fun a => Fin.ext ?_)
  match a with
  | ⟨0, _⟩ => simp; rfl
  | ⟨1, _⟩ => simp; rfl

/-- The staged gate weights are the whole second argument. -/
theorem wgstg_eq (c : Dev nD) : wgstg m c = m ((c : Thread nD τ).loc main_arg1) := by
  refine funext fun i => congrArg (m ((c : Thread nD τ).loc main_arg1)) (funext fun a => Fin.ext ?_)
  match a with
  | ⟨0, _⟩ => simp; rfl
  | ⟨1, _⟩ => simp; rfl

/-- The staged up weights are the whole third argument. -/
theorem wustg_eq (c : Dev nD) : wustg m c = m ((c : Thread nD τ).loc main_arg2) := by
  refine funext fun i => congrArg (m ((c : Thread nD τ).loc main_arg2)) (funext fun a => Fin.ext ?_)
  match a with
  | ⟨0, _⟩ => simp; rfl
  | ⟨1, _⟩ => simp; rfl

/-- The staged down weights are the whole fourth argument. -/
theorem wdstg_eq (c : Dev nD) : wdstg m c = m ((c : Thread nD τ).loc main_arg3) := by
  refine funext fun i => congrArg (m ((c : Thread nD τ).loc main_arg3)) (funext fun a => Fin.ext ?_)
  match a with
  | ⟨0, _⟩ => simp; rfl
  | ⟨1, _⟩ => simp; rfl

/-- A row is row `r % 24` of chunk `r / 24`. -/
theorem row_div_mod (r : Fin 768) (h : r.val / 24 < 32) (h' : r.val % 24 < 24) : row ⟨r.val / 24, h⟩ ⟨r.val % 24, h'⟩ = r :=
  Fin.ext (Nat.div_add_mod r.val 24)

/-- The result at an index: the sum of the devices' partial products there. -/
theorem outB_apply (r l : Fin 768) : outB m (ix2 r l) = ∑ s : Fin 32, prod m s (ix2 r l) := by
  refine (pay41_apply (gathSlot m (⟨r.val / 24, by omega⟩ : Fin 32)) ⟨r.val % 24, by omega⟩ l).trans ?_
  refine (pay40_apply (commB m (⟨r.val / 24, by omega⟩ : Fin 32)) ⟨r.val % 24, by omega⟩ l).trans ?_
  refine Finset.sum_congr rfl fun s _ => ?_
  exact congrArg (fun q : Fin 768 => prod m s (ix2 q l)) (row_div_mod r _ _)

end

/-- The reference's value at an index: the sum of its 49152 terms. -/
theorem ref_apply (x : Vec Ideal S768x768 .bf16) (wg wu : Vec Ideal Cert.ReferenceIdeal.S768x49152 .bf16)
    (wd : Vec Ideal Cert.ReferenceIdeal.S49152x768 .bf16) (r l : Fin 768) :
    Cert.ReferenceIdeal.Read.val_main_v12 (F := Ideal) x wg wu wd (ix2 r l)
      = ∑ f : Fin 49152, term (fun k => x (ix2 r k)) (fun k => wg (ix2 k f)) (fun k => wu (ix2 k f)) (wd (ix2 f l)) := by
  unfold Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_cst Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 term
  pointwise
  simp only [div_one_add_exp]

/-- Column `f` of block `s` is column `s · 1536 + f` of the whole. -/
theorem cols_apply (v : Vec Ideal Cert.ReferenceIdeal.S768x49152 .bf16) (s : Fin 32)
    (h : Layout.Tiles ⟨2, ![768, 1536]⟩ ⟨2, ![768, 49152]⟩ 1 32) (k : Fin 768) (f : Fin 1536) :
    Layout.block ⟨2, ![768, 1536]⟩ ⟨2, ![768, 49152]⟩ 1 32 s v h (ix2 k f) = v (ix2 k (at_ s f)) :=
  congrArg v (funext fun a => by
    match a with
    | ⟨0, _⟩ => rfl
    | ⟨1, _⟩ => rfl)

/-- Row `f` of block `s` is row `s · 1536 + f` of the whole. -/
theorem rows_apply (v : Vec Ideal Cert.ReferenceIdeal.S49152x768 .bf16) (s : Fin 32)
    (h : Layout.Tiles ⟨2, ![1536, 768]⟩ ⟨2, ![49152, 768]⟩ 0 32) (f : Fin 1536) (l : Fin 768) :
    Layout.block ⟨2, ![1536, 768]⟩ ⟨2, ![49152, 768]⟩ 0 32 s v h (ix2 f l) = v (ix2 (at_ s f) l) :=
  congrArg v (funext fun a => by
    match a with
    | ⟨0, _⟩ => rfl
    | ⟨1, _⟩ => rfl)

/-- **The value**: where every device holds the whole activations and its own block of each weight, the kernel's result is
    the reference's. -/
theorem outB_eq (m : (ℓ : Loc nD τ sig) → Buf (Elt Ideal) ℓ) (x : Vec Ideal S768x768 .bf16)
    (wg wu : Vec Ideal Cert.ReferenceIdeal.S768x49152 .bf16) (wd : Vec Ideal Cert.ReferenceIdeal.S49152x768 .bf16)
    (hx : ∀ c : Dev nD, m ((c.tc : Thread nD τ).loc main_arg0) = x)
    (hg : ∀ c : Dev nD, m ((c.tc : Thread nD τ).loc main_arg1) = Layout.block ⟨2, ![768, 1536]⟩ ⟨2, ![768, 49152]⟩ 1 32 c wg)
    (hu : ∀ c : Dev nD, m ((c.tc : Thread nD τ).loc main_arg2) = Layout.block ⟨2, ![768, 1536]⟩ ⟨2, ![768, 49152]⟩ 1 32 c wu)
    (hd : ∀ c : Dev nD, m ((c.tc : Thread nD τ).loc main_arg3) = Layout.block ⟨2, ![1536, 768]⟩ ⟨2, ![49152, 768]⟩ 0 32 c wd) :
    outB m = Cert.ReferenceIdeal.Read.val_main_v12 (F := Ideal) x wg wu wd := by
  refine funext fun i => ?_
  obtain ⟨r, l, rfl⟩ : ∃ r l : Fin 768, i = ix2 r l := ⟨i 0, i 1, eq_ix2 i⟩
  refine (outB_apply m r l).trans ?_
  rw [ref_apply, sum_blocks]
  refine Finset.sum_congr rfl fun s _ => ?_
  unfold prod
  rw [xstg_eq, wgstg_eq, wustg_eq, wdstg_eq, hx, hg, hu, hd]
  refine (pay1_apply _ _ _ _ r l).trans (Finset.sum_congr rfl fun f _ => ?_)
  exact term_congr _ (fun k => cols_apply wg s _ k f) (fun k => cols_apply wu s _ k f) (rows_apply wd s _ f l)

end Cert.Value

end
-- ==== Proof.lean ====
/-
# The proof of the certificate's claim

Five conjuncts: the frame of the kernel at machine words (`quiescent_Kernel`), of the kernel over the extended
reals (`quiescent_KernelIdeal`) and of the reference (`quiescent_ReferenceIdeal`), that the kernel over the
extended reals is the printed kernel with no operation rewritten (`preserves`), and that it computes what the reference
computes (`algebraic`).

* The frames of the kernel come from `Mlp.run`, one run theorem stated at any float instance, which also
  names the contents of the result, `outB`.
* The value comes from `Value.outB_eq`: `outB` is the reference's value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.Value

@[expose] public section

noncomputable section

namespace Cert.Proof

open Idealize.ShloMosaic Idealize.SL.Sem

/-- The kernel at machine words ends with its arguments unchanged and every semaphore at zero. -/
theorem frame_kernel : Cert.quiescent_Kernel := fun m g _ =>
  (θ_run Cert.Kernel.defs _ _).mono (fun _ h => ⟨fun c => (h.1 c).2, h.2⟩) (Cert.Kernel.Mlp.run (F := Bits) m g)

/-- So does the kernel over the extended reals. -/
theorem frame_kernelIdeal : Cert.quiescent_KernelIdeal := fun m g _ =>
  (θ_run Cert.KernelIdeal.defs _ _).mono (fun _ h => ⟨fun c => (h.1 c).2, h.2⟩) (Cert.KernelIdeal.Mlp.run (F := Ideal) m g)

/-- So does the reference, which has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference, from agreeing arguments, end with the same result. -/
theorem algebraic : Cert.algebraic_KernelIdeal_ReferenceIdeal := fun m g m' g' _ hm =>
  ⟨_, (θ_run Cert.KernelIdeal.defs _ _).mono
      (fun _ h c => ⟨(h.1 c).1.trans (Cert.Value.outB_eq m _ _ _ _ (fun c => (hm c).1) (fun c => (hm c).2.1)
        (fun c => (hm c).2.2.1) (fun c => (hm c).2.2.2)), (h.1 c).2⟩)
      (Cert.KernelIdeal.Mlp.run (F := Ideal) m g),
    (θ_run Cert.ReferenceIdeal.defs _ _).mono (fun _ h => h 0) (Cert.ReferenceIdeal.Value.run (F := Ideal) m' g')⟩

/-- The certificate's claim. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
